-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "neg_mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v79) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v66) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S2x16384x2304 : Shape := ⟨3, ![2, 16384, 2304]⟩
abbrev S2x256x2304 : Shape := ⟨3, ![2, 256, 2304]⟩
abbrev S2x128x64x256 : Shape := ⟨4, ![2, 128, 64, 256]⟩
abbrev S2x64x256 : Shape := ⟨3, ![2, 64, 256]⟩
abbrev S4x4 : Shape := ⟨2, ![4, 4]⟩
abbrev S4x256 : Shape := ⟨2, ![4, 256]⟩
abbrev S4x8 : Shape := ⟨2, ![4, 8]⟩
abbrev S4x4x128x128 : Shape := ⟨4, ![4, 4, 128, 128]⟩
abbrev S4x4x128 : Shape := ⟨3, ![4, 4, 128]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x4x1x1 : Shape := ⟨4, ![4, 4, 1, 1]⟩
abbrev S1x1x128x128 : Shape := ⟨4, ![1, 1, 128, 128]⟩
abbrev S4x128x4x128 : Shape := ⟨4, ![4, 128, 4, 128]⟩
abbrev S4x128x512 : Shape := ⟨3, ![4, 128, 512]⟩
abbrev S4x4x1 : Shape := ⟨3, ![4, 4, 1]⟩
abbrev S1x1x128 : Shape := ⟨3, ![1, 1, 128]⟩
abbrev S4x128x4 : Shape := ⟨3, ![4, 128, 4]⟩
abbrev S4x128x4x64 : Shape := ⟨4, ![4, 128, 4, 64]⟩
abbrev S4x128x256 : Shape := ⟨3, ![4, 128, 256]⟩
abbrev S4x1x4 : Shape := ⟨3, ![4, 1, 4]⟩
abbrev S4x1x4x64 : Shape := ⟨4, ![4, 1, 4, 64]⟩
abbrev S4x1x256 : Shape := ⟨3, ![4, 1, 256]⟩
abbrev S2x16384x1024 : Shape := ⟨3, ![2, 16384, 1024]⟩
abbrev S1x512x2304 : Shape := ⟨3, ![1, 512, 2304]⟩
abbrev S1x256x256 : Shape := ⟨3, ![1, 256, 256]⟩
abbrev S1x4x64x256 : Shape := ⟨4, ![1, 4, 64, 256]⟩
abbrev S1x64x256 : Shape := ⟨3, ![1, 64, 256]⟩
abbrev S1x128x512 : Shape := ⟨3, ![1, 128, 512]⟩
abbrev S1x128x256 : Shape := ⟨3, ![1, 128, 256]⟩
abbrev S1x1x256 : Shape := ⟨3, ![1, 1, 256]⟩
abbrev S1x512x1024 : Shape := ⟨3, ![1, 512, 1024]⟩
abbrev S64x256 : Shape := ⟨2, ![64, 256]⟩
abbrev S128x256 : Shape := ⟨2, ![128, 256]⟩
abbrev S256x256 : Shape := ⟨2, ![256, 256]⟩
abbrev S1x256 : Shape := ⟨2, ![1, 256]⟩
abbrev S1x1x64x256 : Shape := ⟨4, ![1, 1, 64, 256]⟩
abbrev S640x256 : Shape := ⟨2, ![640, 256]⟩
abbrev S640x128 : Shape := ⟨2, ![640, 128]⟩
abbrev S1x128x128 : Shape := ⟨3, ![1, 128, 128]⟩
abbrev S1x1 : Shape := ⟨2, ![1, 1]⟩
abbrev S1024x128 : Shape := ⟨2, ![1024, 128]⟩
abbrev S512x128 : Shape := ⟨2, ![512, 128]⟩
abbrev S512x640 : Shape := ⟨2, ![512, 640]⟩
abbrev S1024x640 : Shape := ⟨2, ![1024, 640]⟩
abbrev S1024x256 : Shape := ⟨2, ![1024, 256]⟩
abbrev S1024 : Shape := ⟨1, ![1024]⟩
abbrev S1024x1 : Shape := ⟨2, ![1024, 1]⟩
abbrev S512x256 : Shape := ⟨2, ![512, 256]⟩
abbrev S128x512 : Shape := ⟨2, ![128, 512]⟩
abbrev S128x1024 : Shape := ⟨2, ![128, 1024]⟩

abbrev nBuf : Space → Nat
  | .hbm => 159
  | .vmem => 27
  | .smem => 1
  | _ => 0

abbrev hbmTy0_0 (i : Nat) : BufTy := match i % 128 with
  | 0 => ⟨S2x16384x2304, .f32⟩
  | 1 => ⟨S2x256x2304, .f32⟩
  | 2 => ⟨S2x128x64x256, .bf16⟩
  | 3 => ⟨S2x128x64x256, .f32⟩
  | 4 => ⟨S2x64x256, .f32⟩
  | 5 => ⟨S4x4, .f32⟩
  | 6 => ⟨S4x4, .f32⟩
  | 7 => ⟨S4x256, .f32⟩
  | 8 => ⟨S4x8, .f32⟩
  | 9 => ⟨S4x256, .f32⟩
  | 10 => ⟨S4x4x128x128, .f32⟩
  | 11 => ⟨S4x4x128, .f32⟩
  | 12 => ⟨S4x4, .f32⟩
  | 13 => ⟨S_, .f32⟩
  | 14 => ⟨S4x4, .f32⟩
  | 15 => ⟨S4x4, .f32⟩
  | 16 => ⟨S4x4, .f32⟩
  | 17 => ⟨S4x4, .f32⟩
  | 18 => ⟨S4x4, .i1⟩
  | 19 => ⟨S4x4, .f32⟩
  | 20 => ⟨S4x4, .f32⟩
  | 21 => ⟨S4x4, .f32⟩
  | 22 => ⟨S4x4, .f32⟩
  | 23 => ⟨S4x4, .f32⟩
  | 24 => ⟨S4x4, .f32⟩
  | 25 => ⟨S4x4, .f32⟩
  | 26 => ⟨S4x4, .f32⟩
  | 27 => ⟨S4x4, .f32⟩
  | 28 => ⟨S4x4, .f32⟩
  | 29 => ⟨S_, .f32⟩
  | 30 => ⟨S4x4, .f32⟩
  | 31 => ⟨S4x4, .f32⟩
  | 32 => ⟨S4x4, .f32⟩
  | 33 => ⟨S4x4, .f32⟩
  | 34 => ⟨S4x4, .i1⟩
  | 35 => ⟨S4x4, .f32⟩
  | 36 => ⟨S4x4, .f32⟩
  | 37 => ⟨S4x4, .f32⟩
  | 38 => ⟨S4x4, .f32⟩
  | 39 => ⟨S4x4, .f32⟩
  | 40 => ⟨S4x4, .f32⟩
  | 41 => ⟨S4x4, .f32⟩
  | 42 => ⟨S4x4, .f32⟩
  | 43 => ⟨S4x4, .f32⟩
  | 44 => ⟨S128, .f32⟩
  | 45 => ⟨S128x1, .f32⟩
  | 46 => ⟨S1x128, .f32⟩
  | 47 => ⟨S128x128, .f32⟩
  | 48 => ⟨S128x128, .f32⟩
  | 49 => ⟨S128x128, .f32⟩
  | 50 => ⟨S_, .f32⟩
  | 51 => ⟨S128x128, .f32⟩
  | 52 => ⟨S128x128, .i1⟩
  | 53 => ⟨S4x4x1x1, .f32⟩
  | 54 => ⟨S_, .f32⟩
  | 55 => ⟨S128x128, .f32⟩
  | 56 => ⟨S128x128, .f32⟩
  | 57 => ⟨S1x1x128x128, .f32⟩
  | 58 => ⟨S4x4x128x128, .f32⟩
  | 59 => ⟨S4x4x128x128, .f32⟩
  | 60 => ⟨S4x4x128x128, .f32⟩
  | 61 => ⟨S4x4x128x128, .f32⟩
  | 62 => ⟨S_, .f32⟩
  | 63 => ⟨S_, .f32⟩
  | 64 => ⟨S4x4x128x128, .i1⟩
  | 65 => ⟨S4x4x128x128, .f32⟩
  | 66 => ⟨S4x4x128x128, .f32⟩
  | 67 => ⟨S128x128, .f32⟩
  | 68 => ⟨S_, .f32⟩
  | 69 => ⟨S128x128, .f32⟩
  | 70 => ⟨S128x128, .i1⟩
  | 71 => ⟨S4x4x1x1, .f32⟩
  | 72 => ⟨S_, .f32⟩
  | 73 => ⟨S128x128, .f32⟩
  | 74 => ⟨S128x128, .f32⟩
  | 75 => ⟨S1x1x128x128, .f32⟩
  | 76 => ⟨S4x4x128x128, .f32⟩
  | 77 => ⟨S4x4x128x128, .f32⟩
  | 78 => ⟨S4x4x128x128, .f32⟩
  | 79 => ⟨S4x4x128x128, .f32⟩
  | 80 => ⟨S_, .f32⟩
  | 81 => ⟨S_, .f32⟩
  | 82 => ⟨S4x4x128x128, .i1⟩
  | 83 => ⟨S4x4x128x128, .f32⟩
  | 84 => ⟨S4x4x128x128, .f32⟩
  | 85 => ⟨S4x4x128x128, .f32⟩
  | 86 => ⟨S4x128x4x128, .f32⟩
  | 87 => ⟨S4x128x512, .f32⟩
  | 88 => ⟨S4x4x1, .f32⟩
  | 89 => ⟨S_, .f32⟩
  | 90 => ⟨S128, .f32⟩
  | 91 => ⟨S128, .f32⟩
  | 92 => ⟨S1x1x128, .f32⟩
  | 93 => ⟨S4x4x128, .f32⟩
  | 94 => ⟨S4x4x128, .f32⟩
  | 95 => ⟨S4x4x128, .f32⟩
  | 96 => ⟨S4x4x128, .f32⟩
  | 97 => ⟨S4x128x4, .f32⟩
  | 98 => ⟨S4x128x4x64, .f32⟩
  | 99 => ⟨S4x128x256, .f32⟩
  | 100 => ⟨S4x4x1, .f32⟩
  | 101 => ⟨S_, .f32⟩
  | 102 => ⟨S128, .f32⟩
  | 103 => ⟨S128, .f32⟩
  | 104 => ⟨S1x1x128, .f32⟩
  | 105 => ⟨S4x4x128, .f32⟩
  | 106 => ⟨S4x4x128, .f32⟩
  | 107 => ⟨S4x4x128, .f32⟩
  | 108 => ⟨S4x4x128, .f32⟩
  | 109 => ⟨S4x128x4, .f32⟩
  | 110 => ⟨S4x128x4x64, .f32⟩
  | 111 => ⟨S4x128x256, .f32⟩
  | 112 => ⟨S4x4x1, .f32⟩
  | 113 => ⟨S_, .f32⟩
  | 114 => ⟨S128, .f32⟩
  | 115 => ⟨S128, .f32⟩
  | 116 => ⟨S1x1x128, .f32⟩
  | 117 => ⟨S4x4x128, .f32⟩
  | 118 => ⟨S4x4x128, .f32⟩
  | 119 => ⟨S4x4x128, .f32⟩
  | 120 => ⟨S4x4x128, .f32⟩
  | 121 => ⟨S4x128x4, .f32⟩
  | 122 => ⟨S4x128x4x64, .f32⟩
  | 123 => ⟨S4x128x256, .f32⟩
  | 124 => ⟨S4x4x1, .f32⟩
  | 125 => ⟨S1x1x128, .f32⟩
  | 126 => ⟨S4x4x128, .f32⟩
  | 127 => ⟨S4x4x128, .f32⟩
  | _ => ⟨S2x16384x2304, .f32⟩

abbrev hbmTy0_1 (i : Nat) : BufTy := match i % 128 with
  | 0 => ⟨S4x4x128, .f32⟩
  | 1 => ⟨S4x4x128, .f32⟩
  | 2 => ⟨S4x128x4, .f32⟩
  | 3 => ⟨S4x128x4x64, .f32⟩
  | 4 => ⟨S4x128x256, .f32⟩
  | 5 => ⟨S4x4x1, .f32⟩
  | 6 => ⟨S_, .f32⟩
  | 7 => ⟨S4x4x1, .f32⟩
  | 8 => ⟨S4x4x1, .f32⟩
  | 9 => ⟨S4x4x1, .f32⟩
  | 10 => ⟨S4x1x4, .f32⟩
  | 11 => ⟨S4x1x4x64, .f32⟩
  | 12 => ⟨S4x1x256, .f32⟩
  | 13 => ⟨S4x4x1, .f32⟩
  | 14 => ⟨S_, .f32⟩
  | 15 => ⟨S4x4x1, .f32⟩
  | 16 => ⟨S4x4x1, .f32⟩
  | 17 => ⟨S4x4x1, .f32⟩
  | 18 => ⟨S4x1x4, .f32⟩
  | 19 => ⟨S4x1x4x64, .f32⟩
  | 20 => ⟨S4x1x256, .f32⟩
  | 21 => ⟨S4x1x256, .f32⟩
  | 22 => ⟨S4x1x256, .f32⟩
  | 23 => ⟨S4x128x4x128, .f32⟩
  | 24 => ⟨S4x128x512, .f32⟩
  | 25 => ⟨S4x128x512, .bf16⟩
  | 26 => ⟨S4x128x4, .f32⟩
  | 27 => ⟨S4x128x4x64, .f32⟩
  | 28 => ⟨S4x128x256, .f32⟩
  | 29 => ⟨S2x16384x1024, .bf16⟩
  | 30 => ⟨S2x64x256, .f32⟩
  | _ => ⟨S2x16384x2304, .f32⟩

abbrev hbmTy (i : Nat) : BufTy := match i / 128 with
  | 0 => hbmTy0_0 i
  | 1 => hbmTy0_1 i
  | _ => ⟨S2x16384x2304, .f32⟩

abbrev bufTy : (tb : Table) → Fin (tcTables nBuf tb) → BufTy
  | .hbm, ⟨i, _⟩ => hbmTy i
  | .local _ .vmem, ⟨0, _⟩ => ⟨S1x512x2304, .f32⟩
  | .local _ .vmem, ⟨1, _⟩ => ⟨S1x512x2304, .f32⟩
  | .local _ .vmem, ⟨2, _⟩ => ⟨S1x256x256, .f32⟩
  | .local _ .vmem, ⟨3, _⟩ => ⟨S1x256x256, .f32⟩
  | .local _ .vmem, ⟨4, _⟩ => ⟨S1x4x64x256, .bf16⟩
  | .local _ .vmem, ⟨5, _⟩ => ⟨S1x4x64x256, .bf16⟩
  | .local _ .vmem, ⟨6, _⟩ => ⟨S1x4x64x256, .f32⟩
  | .local _ .vmem, ⟨7, _⟩ => ⟨S1x4x64x256, .f32⟩
  | .local _ .vmem, ⟨8, _⟩ => ⟨S1x64x256, .f32⟩
  | .local _ .vmem, ⟨9, _⟩ => ⟨S1x64x256, .f32⟩
  | .local _ .vmem, ⟨10, _⟩ => ⟨S1x128x512, .f32⟩
  | .local _ .vmem, ⟨11, _⟩ => ⟨S1x128x256, .f32⟩
  | .local _ .vmem, ⟨12, _⟩ => ⟨S1x128x256, .f32⟩
  | .local _ .vmem, ⟨13, _⟩ => ⟨S1x1x256, .f32⟩
  | .local _ .vmem, ⟨14, _⟩ => ⟨S1x1x256, .f32⟩
  | .local _ .vmem, ⟨15, _⟩ => ⟨S1x1x256, .f32⟩
  | .local _ .vmem, ⟨16, _⟩ => ⟨S1x128x512, .bf16⟩
  | .local _ .vmem, ⟨17, _⟩ => ⟨S1x128x256, .f32⟩
  | .local _ .vmem, ⟨18, _⟩ => ⟨S1x128x256, .f32⟩
  | .local _ .vmem, ⟨19, _⟩ => ⟨S1x128x256, .f32⟩
  | .local _ .vmem, ⟨20, _⟩ => ⟨S1x128x256, .f32⟩
  | .local _ .vmem, ⟨21, _⟩ => ⟨S1x128x256, .f32⟩
  | .local _ .vmem, ⟨22, _⟩ => ⟨S1x512x1024, .bf16⟩
  | .local _ .vmem, ⟨23, _⟩ => ⟨S1x512x1024, .bf16⟩
  | .local _ .vmem, ⟨24, _⟩ => ⟨S1x64x256, .f32⟩
  | .local _ .vmem, ⟨25, _⟩ => ⟨S1x64x256, .f32⟩
  | .local _ .vmem, ⟨26, _⟩ => ⟨S64x256, .f32⟩
  | .local _ .smem, ⟨0, _⟩ => ⟨S4x8, .f32⟩
  | _, _ => ⟨S2x16384x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v0 : Ref sig .tc := ⟨.hbm, 27, rfl⟩
abbrev main_call1_v0 : Ref sig .tc := ⟨.hbm, 28, rfl⟩
abbrev main_call1_call0_cst : Ref sig .tc := ⟨.hbm, 29, rfl⟩
abbrev main_call1_call0_v0 : Ref sig .tc := ⟨.hbm, 30, rfl⟩
abbrev main_call1_call0_v1 : Ref sig .tc := ⟨.hbm, 31, rfl⟩
abbrev main_call1_call0_v2 : Ref sig .tc := ⟨.hbm, 32, rfl⟩
abbrev main_call1_call0_v3 : Ref sig .tc := ⟨.hbm, 33, rfl⟩
abbrev main_call1_call0_v4 : Ref sig .tc := ⟨.hbm, 34, rfl⟩
abbrev main_call1_call0_v5 : Ref sig .tc := ⟨.hbm, 35, rfl⟩
abbrev main_call1_call0_v6 : Ref sig .tc := ⟨.hbm, 36, rfl⟩
abbrev main_call1_call0_v7 : Ref sig .tc := ⟨.hbm, 37, rfl⟩
abbrev main_call1_call0_v8 : Ref sig .tc := ⟨.hbm, 38, rfl⟩
abbrev main_call1_call0_v9 : Ref sig .tc := ⟨.hbm, 39, rfl⟩
abbrev main_call1_call0_v10 : Ref sig .tc := ⟨.hbm, 40, rfl⟩
abbrev main_call1_call0_v11 : Ref sig .tc := ⟨.hbm, 41, rfl⟩
abbrev main_call1_v1 : Ref sig .tc := ⟨.hbm, 42, rfl⟩
abbrev main_v1 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_cst : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_cst_0 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst_1 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v18 : Ref sig .tc := ⟨.hbm, 66, rfl⟩
abbrev main_v19 : Ref sig .tc := ⟨.hbm, 67, rfl⟩
abbrev main_cst_2 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_cst_3 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_cst_4 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_cst_5 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_cst_6 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_cst_7 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_8 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_cst_9 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98_0 : Ref sig .tc := ⟨.hbm, 157, rfl⟩
abbrev main_v98_1 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_scratch0 : Ref sig .tc := ⟨.vmem, 26, rfl⟩
abbrev cc0_stg10_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32_50 : BitVec 32 := 31#32
  let v101 : BitVec 1 := Scalar.cmpi .eq arg1 c31_i32_50
  let v102 : BitVec 32 := Scalar.extui v101
  let c0_i32_51 : BitVec 32 := 0#32
  let v103 : BitVec 1 := Scalar.cmpi .ne v102 c0_i32_51
  v103

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![arg0.toNat, c0_i32.toNat, c6_i32.toNat]

def cc0_transform_2 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c6_i32 : BitVec 32 := 6#32
  let c0_i32_0 : BitVec 32 := 0#32
  ![arg0.toNat, v3.toNat, c6_i32.toNat]

def cc0_transform_15 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c1_i32 : BitVec 32 := 1#32
  let v1 : BitVec 32 := Scalar.addi v0 c1_i32
  let c4_i32 : BitVec 32 := 4#32
  let v2 : BitVec 32 := Scalar.muli v1 c4_i32
  let c127_i32 : BitVec 32 := 127#32
  let v3 : BitVec 32 := Scalar.minsi v2 c127_i32
  let c6_i32 : BitVec 32 := 6#32
  let c0_i32 : BitVec 32 := 0#32
  ![arg0.toNat, v3.toNat, c6_i32.toNat]

def cc0_transform_16 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .smem S4x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x64x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== KernelIdeal.lean ====
variable {F : FTy → Type} [FloatOps F] [Named F]
def κ : String → Option EReal := fun
  | "log2e" => some (((Real.log 2)⁻¹ : ℝ) : EReal)
  | "neg_mask" => some ⊥
  | _ => none
-- ==== ReferenceIdeal.lean ====
abbrev S2x16384x2304 : Shape := ⟨3, ![2, 16384, 2304]⟩
abbrev S2x256x2304 : Shape := ⟨3, ![2, 256, 2304]⟩
abbrev S2x128x64x256 : Shape := ⟨4, ![2, 128, 64, 256]⟩
abbrev S2x64x256 : Shape := ⟨3, ![2, 64, 256]⟩
abbrev S4x4 : Shape := ⟨2, ![4, 4]⟩
abbrev S4x256 : Shape := ⟨2, ![4, 256]⟩
abbrev S4x8 : Shape := ⟨2, ![4, 8]⟩
abbrev S4x4x128x128 : Shape := ⟨4, ![4, 4, 128, 128]⟩
abbrev S4x4x128 : Shape := ⟨3, ![4, 4, 128]⟩
abbrev S2x16384x256 : Shape := ⟨3, ![2, 16384, 256]⟩
abbrev S2x16384x512 : Shape := ⟨3, ![2, 16384, 512]⟩
abbrev S2x16384x128 : Shape := ⟨3, ![2, 16384, 128]⟩
abbrev S2x256x256 : Shape := ⟨3, ![2, 256, 256]⟩
abbrev S2x256x512 : Shape := ⟨3, ![2, 256, 512]⟩
abbrev S2x256x128 : Shape := ⟨3, ![2, 256, 128]⟩
abbrev S_ : Shape := ⟨0, ![]⟩
abbrev S2x128x128x4x64 : Shape := ⟨5, ![2, 128, 128, 4, 64]⟩
abbrev S2x128x128x4 : Shape := ⟨4, ![2, 128, 128, 4]⟩
abbrev S2x128x128x4x1 : Shape := ⟨5, ![2, 128, 128, 4, 1]⟩
abbrev S1x256 : Shape := ⟨2, ![1, 256]⟩
abbrev S256 : Shape := ⟨1, ![256]⟩
abbrev S4x64 : Shape := ⟨2, ![4, 64]⟩
abbrev S1x1x1x4x64 : Shape := ⟨5, ![1, 1, 1, 4, 64]⟩
abbrev S1x4x128x128 : Shape := ⟨4, ![1, 4, 128, 128]⟩
abbrev S4x128x128 : Shape := ⟨3, ![4, 128, 128]⟩
abbrev S4x2x128x64x128 : Shape := ⟨5, ![4, 2, 128, 64, 128]⟩
abbrev S1x4x128 : Shape := ⟨3, ![1, 4, 128]⟩
abbrev S4x128 : Shape := ⟨2, ![4, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x4 : Shape := ⟨2, ![1, 4]⟩
abbrev S4 : Shape := ⟨1, ![4]⟩
abbrev S4x1 : Shape := ⟨2, ![4, 1]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x1 : Shape := ⟨3, ![4, 128, 1]⟩
abbrev S2x128x64x4x64 : Shape := ⟨5, ![2, 128, 64, 4, 64]⟩
abbrev S2x1x64x4x64 : Shape := ⟨5, ![2, 1, 64, 4, 64]⟩
abbrev S2x64x4x64 : Shape := ⟨4, ![2, 64, 4, 64]⟩
abbrev S4x2x64x64x128 : Shape := ⟨5, ![4, 2, 64, 64, 128]⟩
abbrev S1x128x1x4x1 : Shape := ⟨5, ![1, 128, 1, 4, 1]⟩
abbrev S4x2x64x64 : Shape := ⟨4, ![4, 2, 64, 64]⟩
abbrev S1x1x4x1 : Shape := ⟨4, ![1, 1, 4, 1]⟩
abbrev S2x128x4x128x128 : Shape := ⟨5, ![2, 128, 4, 128, 128]⟩
abbrev S1x1x4x128x128 : Shape := ⟨5, ![1, 1, 4, 128, 128]⟩
abbrev S2x128x4x64x128 : Shape := ⟨5, ![2, 128, 4, 64, 128]⟩
abbrev S1x1x256 : Shape := ⟨3, ![1, 1, 256]⟩
abbrev S2x128x128x4x2x64 : Shape := ⟨6, ![2, 128, 128, 4, 2, 64]⟩
abbrev S2x16640x128 : Shape := ⟨3, ![2, 16640, 128]⟩
abbrev S2x130x128x2x64 : Shape := ⟨5, ![2, 130, 128, 2, 64]⟩
abbrev S2x128x128x2x64 : Shape := ⟨5, ![2, 128, 128, 2, 64]⟩
abbrev S2x128x384x2x64 : Shape := ⟨5, ![2, 128, 384, 2, 64]⟩
abbrev S2x256x2x64 : Shape := ⟨4, ![2, 256, 2, 64]⟩
abbrev S384 : Shape := ⟨1, ![384]⟩
abbrev S1x384 : Shape := ⟨2, ![1, 384]⟩
abbrev S128x384 : Shape := ⟨2, ![128, 384]⟩
abbrev S1x128x384 : Shape := ⟨3, ![1, 128, 384]⟩
abbrev S128x1x384 : Shape := ⟨3, ![128, 1, 384]⟩
abbrev S128x128x384 : Shape := ⟨3, ![128, 128, 384]⟩
abbrev S2x128x2x384x128x4 : Shape := ⟨6, ![2, 128, 2, 384, 128, 4]⟩
abbrev S2x128x2x4x128x384 : Shape := ⟨6, ![2, 128, 2, 4, 128, 384]⟩
abbrev S128x1x1x128x384 : Shape := ⟨5, ![128, 1, 1, 128, 384]⟩
abbrev S2x2x256x128x128x4 : Shape := ⟨6, ![2, 2, 256, 128, 128, 4]⟩
abbrev S2x128x2x4x128x256 : Shape := ⟨6, ![2, 128, 2, 4, 128, 256]⟩
abbrev S1x8 : Shape := ⟨2, ![1, 8]⟩
abbrev S8 : Shape := ⟨1, ![8]⟩
abbrev S2x4 : Shape := ⟨2, ![2, 4]⟩
abbrev S1x1x2x4x1x1 : Shape := ⟨6, ![1, 1, 2, 4, 1, 1]⟩
abbrev S2x128x2x4x128x1 : Shape := ⟨6, ![2, 128, 2, 4, 128, 1]⟩
abbrev S2x128x2x4x128x641 : Shape := ⟨6, ![2, 128, 2, 4, 128, 641]⟩
abbrev S2x128x2x4x128 : Shape := ⟨5, ![2, 128, 2, 4, 128]⟩
abbrev S2x128x2x64x4x128 : Shape := ⟨6, ![2, 128, 2, 64, 4, 128]⟩
abbrev S2x2x64x128x4x128 : Shape := ⟨6, ![2, 2, 64, 128, 4, 128]⟩
abbrev S2x16384x1024 : Shape := ⟨3, ![2, 16384, 1024]⟩

abbrev nBuf : Space → Nat
  | .hbm => 450
  | .vmem => 0
  | .smem => 0
  | _ => 0

abbrev hbmTy0_0 (i : Nat) : BufTy := match i % 128 with
  | 0 => ⟨S2x16384x2304, .f32⟩
  | 1 => ⟨S2x256x2304, .f32⟩
  | 2 => ⟨S2x128x64x256, .bf16⟩
  | 3 => ⟨S2x128x64x256, .f32⟩
  | 4 => ⟨S2x64x256, .f32⟩
  | 5 => ⟨S4x4, .f32⟩
  | 6 => ⟨S4x4, .f32⟩
  | 7 => ⟨S4x256, .f32⟩
  | 8 => ⟨S4x8, .f32⟩
  | 9 => ⟨S4x256, .f32⟩
  | 10 => ⟨S4x4x128x128, .f32⟩
  | 11 => ⟨S4x4x128, .f32⟩
  | 12 => ⟨S2x16384x256, .f32⟩
  | 13 => ⟨S2x16384x256, .f32⟩
  | 14 => ⟨S2x16384x256, .f32⟩
  | 15 => ⟨S2x16384x256, .f32⟩
  | 16 => ⟨S2x16384x512, .f32⟩
  | 17 => ⟨S2x16384x128, .f32⟩
  | 18 => ⟨S2x16384x128, .f32⟩
  | 19 => ⟨S2x16384x256, .f32⟩
  | 20 => ⟨S2x16384x256, .f32⟩
  | 21 => ⟨S2x256x256, .f32⟩
  | 22 => ⟨S2x256x256, .f32⟩
  | 23 => ⟨S2x256x256, .f32⟩
  | 24 => ⟨S2x256x256, .f32⟩
  | 25 => ⟨S2x256x512, .f32⟩
  | 26 => ⟨S2x256x128, .f32⟩
  | 27 => ⟨S2x256x128, .f32⟩
  | 28 => ⟨S2x256x256, .f32⟩
  | 29 => ⟨S2x256x256, .f32⟩
  | 30 => ⟨S2x16384x256, .f32⟩
  | 31 => ⟨S2x16384x256, .f32⟩
  | 32 => ⟨S_, .f32⟩
  | 33 => ⟨S2x16384x256, .f32⟩
  | 34 => ⟨S2x16384x256, .f32⟩
  | 35 => ⟨S2x16384x256, .f32⟩
  | 36 => ⟨S_, .f32⟩
  | 37 => ⟨S2x16384x256, .f32⟩
  | 38 => ⟨S2x16384x256, .f32⟩
  | 39 => ⟨S2x16384x256, .f32⟩
  | 40 => ⟨S_, .f32⟩
  | 41 => ⟨S2x16384x256, .f32⟩
  | 42 => ⟨S2x16384x256, .f32⟩
  | 43 => ⟨S_, .f32⟩
  | 44 => ⟨S2x16384x256, .f32⟩
  | 45 => ⟨S2x16384x256, .f32⟩
  | 46 => ⟨S2x16384x256, .f32⟩
  | 47 => ⟨S2x16384x256, .f32⟩
  | 48 => ⟨S2x16384x256, .f32⟩
  | 49 => ⟨S_, .f32⟩
  | 50 => ⟨S2x16384x256, .f32⟩
  | 51 => ⟨S2x16384x256, .f32⟩
  | 52 => ⟨S2x16384x256, .f32⟩
  | 53 => ⟨S_, .f32⟩
  | 54 => ⟨S2x16384x256, .f32⟩
  | 55 => ⟨S2x16384x256, .f32⟩
  | 56 => ⟨S2x16384x256, .f32⟩
  | 57 => ⟨S_, .f32⟩
  | 58 => ⟨S2x16384x256, .f32⟩
  | 59 => ⟨S2x16384x256, .f32⟩
  | 60 => ⟨S_, .f32⟩
  | 61 => ⟨S2x16384x256, .f32⟩
  | 62 => ⟨S2x16384x256, .f32⟩
  | 63 => ⟨S2x16384x256, .f32⟩
  | 64 => ⟨S2x128x128x4x64, .f32⟩
  | 65 => ⟨S_, .f32⟩
  | 66 => ⟨S2x128x128x4, .f32⟩
  | 67 => ⟨S2x128x128x4x1, .f32⟩
  | 68 => ⟨S_, .f32⟩
  | 69 => ⟨S2x128x128x4x1, .f32⟩
  | 70 => ⟨S2x128x128x4x1, .f32⟩
  | 71 => ⟨S2x128x128x4x64, .f32⟩
  | 72 => ⟨S2x128x128x4x64, .f32⟩
  | 73 => ⟨S2x128x128x4x64, .f32⟩
  | 74 => ⟨S2x128x128x4x64, .f32⟩
  | 75 => ⟨S2x128x128x4x64, .f32⟩
  | 76 => ⟨S_, .f32⟩
  | 77 => ⟨S2x128x128x4, .f32⟩
  | 78 => ⟨S2x128x128x4x1, .f32⟩
  | 79 => ⟨S_, .f32⟩
  | 80 => ⟨S2x128x128x4x1, .f32⟩
  | 81 => ⟨S2x128x128x4x1, .f32⟩
  | 82 => ⟨S2x128x128x4x64, .f32⟩
  | 83 => ⟨S2x128x128x4x64, .f32⟩
  | 84 => ⟨S_, .f32⟩
  | 85 => ⟨S2x128x128x4x1, .f32⟩
  | 86 => ⟨S2x128x128x4x1, .f32⟩
  | 87 => ⟨S2x128x128x4x1, .f32⟩
  | 88 => ⟨S2x128x128x4x64, .f32⟩
  | 89 => ⟨S2x128x128x4x64, .f32⟩
  | 90 => ⟨S1x256, .f32⟩
  | 91 => ⟨S256, .f32⟩
  | 92 => ⟨S4x64, .f32⟩
  | 93 => ⟨S1x1x1x4x64, .f32⟩
  | 94 => ⟨S2x128x128x4x64, .f32⟩
  | 95 => ⟨S2x128x128x4x64, .f32⟩
  | 96 => ⟨S1x4x128x128, .f32⟩
  | 97 => ⟨S4x128x128, .f32⟩
  | 98 => ⟨S4x2x128x64x128, .f32⟩
  | 99 => ⟨S2x128x128x4x64, .f32⟩
  | 100 => ⟨S1x4x128, .f32⟩
  | 101 => ⟨S4x128, .f32⟩
  | 102 => ⟨S128x4, .f32⟩
  | 103 => ⟨S128x4x1, .f32⟩
  | 104 => ⟨S1x1x128x4x1, .f32⟩
  | 105 => ⟨S2x128x128x4x64, .f32⟩
  | 106 => ⟨S2x128x128x4x64, .f32⟩
  | 107 => ⟨S2x16384x256, .f32⟩
  | 108 => ⟨S2x16384x256, .f32⟩
  | 109 => ⟨S2x128x128x4x64, .f32⟩
  | 110 => ⟨S2x128x128x4x64, .f32⟩
  | 111 => ⟨S2x128x128x4x64, .f32⟩
  | 112 => ⟨S1x4, .f32⟩
  | 113 => ⟨S4, .f32⟩
  | 114 => ⟨S4, .f32⟩
  | 115 => ⟨S_, .f32⟩
  | 116 => ⟨S4, .f32⟩
  | 117 => ⟨S4, .f32⟩
  | 118 => ⟨S4, .f32⟩
  | 119 => ⟨S4, .f32⟩
  | 120 => ⟨S4, .i1⟩
  | 121 => ⟨S4, .f32⟩
  | 122 => ⟨S4, .f32⟩
  | 123 => ⟨S4, .f32⟩
  | 124 => ⟨S4, .f32⟩
  | 125 => ⟨S4, .f32⟩
  | 126 => ⟨S4, .f32⟩
  | 127 => ⟨S4, .f32⟩
  | _ => ⟨S2x16384x2304, .f32⟩

abbrev hbmTy0_1 (i : Nat) : BufTy := match i % 128 with
  | 0 => ⟨S4, .f32⟩
  | 1 => ⟨S4, .f32⟩
  | 2 => ⟨S4x1, .f32⟩
  | 3 => ⟨S1x4, .f32⟩
  | 4 => ⟨S4, .f32⟩
  | 5 => ⟨S4, .f32⟩
  | 6 => ⟨S_, .f32⟩
  | 7 => ⟨S4, .f32⟩
  | 8 => ⟨S4, .f32⟩
  | 9 => ⟨S4, .f32⟩
  | 10 => ⟨S4, .f32⟩
  | 11 => ⟨S4, .i1⟩
  | 12 => ⟨S4, .f32⟩
  | 13 => ⟨S4, .f32⟩
  | 14 => ⟨S4, .f32⟩
  | 15 => ⟨S4, .f32⟩
  | 16 => ⟨S4, .f32⟩
  | 17 => ⟨S4, .f32⟩
  | 18 => ⟨S4, .f32⟩
  | 19 => ⟨S4, .f32⟩
  | 20 => ⟨S4, .f32⟩
  | 21 => ⟨S4x1, .f32⟩
  | 22 => ⟨S128, .f32⟩
  | 23 => ⟨S128x1, .f32⟩
  | 24 => ⟨S1x128, .f32⟩
  | 25 => ⟨S128x128, .f32⟩
  | 26 => ⟨S128x128, .f32⟩
  | 27 => ⟨S128x128, .f32⟩
  | 28 => ⟨S_, .f32⟩
  | 29 => ⟨S128x128, .f32⟩
  | 30 => ⟨S128x128, .i1⟩
  | 31 => ⟨S4x1x1, .f32⟩
  | 32 => ⟨S_, .f32⟩
  | 33 => ⟨S128x128, .f32⟩
  | 34 => ⟨S128x128, .f32⟩
  | 35 => ⟨S1x128x128, .f32⟩
  | 36 => ⟨S4x128x128, .f32⟩
  | 37 => ⟨S4x128x128, .f32⟩
  | 38 => ⟨S4x128x128, .f32⟩
  | 39 => ⟨S4x128x128, .f32⟩
  | 40 => ⟨S_, .f32⟩
  | 41 => ⟨S_, .f32⟩
  | 42 => ⟨S4x128x128, .i1⟩
  | 43 => ⟨S4x128x128, .f32⟩
  | 44 => ⟨S4x128x128, .f32⟩
  | 45 => ⟨S128x128, .f32⟩
  | 46 => ⟨S_, .f32⟩
  | 47 => ⟨S128x128, .f32⟩
  | 48 => ⟨S128x128, .i1⟩
  | 49 => ⟨S4x1x1, .f32⟩
  | 50 => ⟨S128x128, .f32⟩
  | 51 => ⟨S_, .f32⟩
  | 52 => ⟨S128x128, .f32⟩
  | 53 => ⟨S128x128, .f32⟩
  | 54 => ⟨S1x128x128, .f32⟩
  | 55 => ⟨S4x128x128, .f32⟩
  | 56 => ⟨S4x128x128, .f32⟩
  | 57 => ⟨S4x128x128, .f32⟩
  | 58 => ⟨S4x128x128, .f32⟩
  | 59 => ⟨S_, .f32⟩
  | 60 => ⟨S_, .f32⟩
  | 61 => ⟨S4x128x128, .i1⟩
  | 62 => ⟨S4x128x128, .f32⟩
  | 63 => ⟨S4x128x128, .f32⟩
  | 64 => ⟨S_, .f32⟩
  | 65 => ⟨S128, .f32⟩
  | 66 => ⟨S128, .f32⟩
  | 67 => ⟨S1x128, .f32⟩
  | 68 => ⟨S4x128, .f32⟩
  | 69 => ⟨S4x128, .f32⟩
  | 70 => ⟨S4x128, .f32⟩
  | 71 => ⟨S4x128, .f32⟩
  | 72 => ⟨S4x128x1, .f32⟩
  | 73 => ⟨S_, .f32⟩
  | 74 => ⟨S128, .f32⟩
  | 75 => ⟨S128, .f32⟩
  | 76 => ⟨S1x128, .f32⟩
  | 77 => ⟨S4x128, .f32⟩
  | 78 => ⟨S4x128, .f32⟩
  | 79 => ⟨S4x128, .f32⟩
  | 80 => ⟨S4x128, .f32⟩
  | 81 => ⟨S4x128x1, .f32⟩
  | 82 => ⟨S2x128x64x256, .f32⟩
  | 83 => ⟨S2x128x64x4x64, .f32⟩
  | 84 => ⟨S2x128x64x4x64, .f32⟩
  | 85 => ⟨S128, .f32⟩
  | 86 => ⟨S1x128, .f32⟩
  | 87 => ⟨S128x1, .f32⟩
  | 88 => ⟨S128x128, .f32⟩
  | 89 => ⟨S128x128, .f32⟩
  | 90 => ⟨S128x128, .f32⟩
  | 91 => ⟨S_, .f32⟩
  | 92 => ⟨S128x128, .f32⟩
  | 93 => ⟨S128x128, .f32⟩
  | 94 => ⟨S_, .f32⟩
  | 95 => ⟨S128x128, .f32⟩
  | 96 => ⟨S128x128, .i1⟩
  | 97 => ⟨S4x1x1, .f32⟩
  | 98 => ⟨S_, .f32⟩
  | 99 => ⟨S128x128, .f32⟩
  | 100 => ⟨S128x128, .f32⟩
  | 101 => ⟨S_, .f32⟩
  | 102 => ⟨S128x128, .f32⟩
  | 103 => ⟨S128x128, .f32⟩
  | 104 => ⟨S1x128x128, .f32⟩
  | 105 => ⟨S4x128x128, .f32⟩
  | 106 => ⟨S4x128x128, .f32⟩
  | 107 => ⟨S4x128x128, .f32⟩
  | 108 => ⟨S4x128x128, .f32⟩
  | 109 => ⟨S_, .f32⟩
  | 110 => ⟨S_, .f32⟩
  | 111 => ⟨S4x128x128, .i1⟩
  | 112 => ⟨S4x128x128, .f32⟩
  | 113 => ⟨S4x128x128, .f32⟩
  | 114 => ⟨S2x1x64x4x64, .f32⟩
  | 115 => ⟨S2x64x4x64, .f32⟩
  | 116 => ⟨S4x2x64x64x128, .f32⟩
  | 117 => ⟨S2x128x64x4x64, .f32⟩
  | 118 => ⟨S_, .f32⟩
  | 119 => ⟨S128, .f32⟩
  | 120 => ⟨S128, .f32⟩
  | 121 => ⟨S_, .f32⟩
  | 122 => ⟨S128, .f32⟩
  | 123 => ⟨S128, .f32⟩
  | 124 => ⟨S1x128, .f32⟩
  | 125 => ⟨S4x128, .f32⟩
  | 126 => ⟨S4x128, .f32⟩
  | 127 => ⟨S4x128, .f32⟩
  | _ => ⟨S2x16384x2304, .f32⟩

abbrev hbmTy0_2 (i : Nat) : BufTy := match i % 128 with
  | 0 => ⟨S4x128, .f32⟩
  | 1 => ⟨S128x4, .f32⟩
  | 2 => ⟨S1x128x1x4x1, .f32⟩
  | 3 => ⟨S2x1x64x4x64, .f32⟩
  | 4 => ⟨S2x128x64x4x64, .f32⟩
  | 5 => ⟨S2x128x64x4x64, .f32⟩
  | 6 => ⟨S2x128x64x4x64, .f32⟩
  | 7 => ⟨S2x128x64x4x64, .f32⟩
  | 8 => ⟨S_, .f32⟩
  | 9 => ⟨S128, .f32⟩
  | 10 => ⟨S128, .f32⟩
  | 11 => ⟨S1x128, .f32⟩
  | 12 => ⟨S4x128, .f32⟩
  | 13 => ⟨S4x128, .f32⟩
  | 14 => ⟨S4x128, .f32⟩
  | 15 => ⟨S4x128, .f32⟩
  | 16 => ⟨S4x2x64x64, .f32⟩
  | 17 => ⟨S2x64x4x64, .f32⟩
  | 18 => ⟨S_, .f32⟩
  | 19 => ⟨S4x1, .f32⟩
  | 20 => ⟨S4x1, .f32⟩
  | 21 => ⟨S4x1, .f32⟩
  | 22 => ⟨S1x1x4x1, .f32⟩
  | 23 => ⟨S2x64x4x64, .f32⟩
  | 24 => ⟨S2x64x4x64, .f32⟩
  | 25 => ⟨S2x64x4x64, .f32⟩
  | 26 => ⟨S2x128x4x128x128, .f32⟩
  | 27 => ⟨S1x1x4x128x128, .f32⟩
  | 28 => ⟨S2x128x4x128x128, .f32⟩
  | 29 => ⟨S2x128x4x128x128, .f32⟩
  | 30 => ⟨S2x128x4x64x128, .f32⟩
  | 31 => ⟨S2x128x128x4x64, .f32⟩
  | 32 => ⟨S128x4x1, .f32⟩
  | 33 => ⟨S1x1x128x4x1, .f32⟩
  | 34 => ⟨S2x128x128x4x64, .f32⟩
  | 35 => ⟨S2x128x128x4x64, .f32⟩
  | 36 => ⟨S2x128x4x64x128, .f32⟩
  | 37 => ⟨S2x128x128x4x64, .f32⟩
  | 38 => ⟨S2x128x128x4x64, .f32⟩
  | 39 => ⟨S1x1x4x128x128, .f32⟩
  | 40 => ⟨S2x128x4x128x128, .f32⟩
  | 41 => ⟨S2x128x4x128x128, .f32⟩
  | 42 => ⟨S2x128x4x64x128, .f32⟩
  | 43 => ⟨S2x128x128x4x64, .f32⟩
  | 44 => ⟨S128x4x1, .f32⟩
  | 45 => ⟨S1x1x128x4x1, .f32⟩
  | 46 => ⟨S2x128x128x4x64, .f32⟩
  | 47 => ⟨S2x128x128x4x64, .f32⟩
  | 48 => ⟨S2x128x4x64x128, .f32⟩
  | 49 => ⟨S2x128x128x4x64, .f32⟩
  | 50 => ⟨S2x128x128x4x64, .f32⟩
  | 51 => ⟨S2x128x128x4x64, .f32⟩
  | 52 => ⟨S_, .f32⟩
  | 53 => ⟨S2x128x128x4, .f32⟩
  | 54 => ⟨S2x128x128x4x1, .f32⟩
  | 55 => ⟨S_, .f32⟩
  | 56 => ⟨S2x128x128x4x1, .f32⟩
  | 57 => ⟨S2x128x128x4x1, .f32⟩
  | 58 => ⟨S2x128x128x4x64, .f32⟩
  | 59 => ⟨S2x128x128x4x64, .f32⟩
  | 60 => ⟨S2x128x128x4x64, .f32⟩
  | 61 => ⟨S2x128x128x4x64, .f32⟩
  | 62 => ⟨S2x128x128x4x64, .f32⟩
  | 63 => ⟨S_, .f32⟩
  | 64 => ⟨S2x128x128x4, .f32⟩
  | 65 => ⟨S2x128x128x4x1, .f32⟩
  | 66 => ⟨S_, .f32⟩
  | 67 => ⟨S2x128x128x4x1, .f32⟩
  | 68 => ⟨S2x128x128x4x1, .f32⟩
  | 69 => ⟨S2x128x128x4x64, .f32⟩
  | 70 => ⟨S2x128x128x4x64, .f32⟩
  | 71 => ⟨S_, .f32⟩
  | 72 => ⟨S2x128x128x4x1, .f32⟩
  | 73 => ⟨S2x128x128x4x1, .f32⟩
  | 74 => ⟨S2x128x128x4x1, .f32⟩
  | 75 => ⟨S2x128x128x4x64, .f32⟩
  | 76 => ⟨S2x128x128x4x64, .f32⟩
  | 77 => ⟨S2x16384x256, .f32⟩
  | 78 => ⟨S1x256, .f32⟩
  | 79 => ⟨S256, .f32⟩
  | 80 => ⟨S1x1x256, .f32⟩
  | 81 => ⟨S2x16384x256, .f32⟩
  | 82 => ⟨S2x16384x256, .f32⟩
  | 83 => ⟨S2x16384x256, .f32⟩
  | 84 => ⟨S2x16384x256, .f32⟩
  | 85 => ⟨S_, .f32⟩
  | 86 => ⟨S2x16384x256, .f32⟩
  | 87 => ⟨S2x16384x256, .f32⟩
  | 88 => ⟨S_, .f32⟩
  | 89 => ⟨S2x16384x256, .f32⟩
  | 90 => ⟨S2x16384x256, .f32⟩
  | 91 => ⟨S2x16384x256, .f32⟩
  | 92 => ⟨S2x16384x256, .f32⟩
  | 93 => ⟨S2x128x128x4x2x64, .f32⟩
  | 94 => ⟨S_, .i32⟩
  | 95 => ⟨S_, .f32⟩
  | 96 => ⟨S2x16640x128, .f32⟩
  | 97 => ⟨S2x130x128x2x64, .f32⟩
  | 98 => ⟨S_, .i32⟩
  | 99 => ⟨S_, .f32⟩
  | 100 => ⟨S2x16640x128, .f32⟩
  | 101 => ⟨S2x130x128x2x64, .f32⟩
  | 102 => ⟨S2x128x128x2x64, .f32⟩
  | 103 => ⟨S2x128x128x2x64, .f32⟩
  | 104 => ⟨S2x128x128x2x64, .f32⟩
  | 105 => ⟨S2x128x384x2x64, .f32⟩
  | 106 => ⟨S2x128x128x2x64, .f32⟩
  | 107 => ⟨S2x128x128x2x64, .f32⟩
  | 108 => ⟨S2x128x128x2x64, .f32⟩
  | 109 => ⟨S2x128x384x2x64, .f32⟩
  | 110 => ⟨S2x256x2x64, .f32⟩
  | 111 => ⟨S2x256x2x64, .f32⟩
  | 112 => ⟨S384, .i32⟩
  | 113 => ⟨S_, .i32⟩
  | 114 => ⟨S384, .i32⟩
  | 115 => ⟨S384, .i32⟩
  | 116 => ⟨S1x384, .i32⟩
  | 117 => ⟨S128, .i32⟩
  | 118 => ⟨S128x1, .i32⟩
  | 119 => ⟨S128x384, .i32⟩
  | 120 => ⟨S128x384, .i32⟩
  | 121 => ⟨S128x384, .i32⟩
  | 122 => ⟨S128x384, .i32⟩
  | 123 => ⟨S_, .i32⟩
  | 124 => ⟨S128x384, .i32⟩
  | 125 => ⟨S128x384, .i1⟩
  | 126 => ⟨S128, .i32⟩
  | 127 => ⟨S128x1, .i32⟩
  | _ => ⟨S2x16384x2304, .f32⟩

abbrev hbmTy0_3 (i : Nat) : BufTy := match i % 128 with
  | 0 => ⟨S_, .i32⟩
  | 1 => ⟨S128x1, .i32⟩
  | 2 => ⟨S128x1, .i32⟩
  | 3 => ⟨S1x384, .i32⟩
  | 4 => ⟨S128x384, .i32⟩
  | 5 => ⟨S128x384, .i32⟩
  | 6 => ⟨S128x384, .i32⟩
  | 7 => ⟨S1x128x384, .i1⟩
  | 8 => ⟨S_, .i32⟩
  | 9 => ⟨S128x384, .i32⟩
  | 10 => ⟨S128x384, .i1⟩
  | 11 => ⟨S_, .i32⟩
  | 12 => ⟨S128x384, .i32⟩
  | 13 => ⟨S128x384, .i1⟩
  | 14 => ⟨S128x384, .i1⟩
  | 15 => ⟨S128x1x384, .i1⟩
  | 16 => ⟨S128x128x384, .i1⟩
  | 17 => ⟨S128x128x384, .i1⟩
  | 18 => ⟨S128x128x384, .i1⟩
  | 19 => ⟨S_, .f32⟩
  | 20 => ⟨S_, .f32⟩
  | 21 => ⟨S2x128x2x384x128x4, .f32⟩
  | 22 => ⟨S2x128x2x4x128x384, .f32⟩
  | 23 => ⟨S2x128x2x4x128x384, .f32⟩
  | 24 => ⟨S2x128x2x4x128x384, .f32⟩
  | 25 => ⟨S128x1x1x128x384, .i1⟩
  | 26 => ⟨S_, .f32⟩
  | 27 => ⟨S_, .f32⟩
  | 28 => ⟨S2x128x2x4x128x384, .i1⟩
  | 29 => ⟨S2x128x2x4x128x384, .f32⟩
  | 30 => ⟨S2x128x2x4x128x384, .f32⟩
  | 31 => ⟨S2x2x256x128x128x4, .f32⟩
  | 32 => ⟨S2x128x2x4x128x256, .f32⟩
  | 33 => ⟨S2x128x2x4x128x256, .f32⟩
  | 34 => ⟨S2x128x2x4x128x256, .f32⟩
  | 35 => ⟨S1x8, .f32⟩
  | 36 => ⟨S8, .f32⟩
  | 37 => ⟨S2x4, .f32⟩
  | 38 => ⟨S1x1x2x4x1x1, .f32⟩
  | 39 => ⟨S2x128x2x4x128x1, .f32⟩
  | 40 => ⟨S2x128x2x4x128x641, .f32⟩
  | 41 => ⟨S_, .f32⟩
  | 42 => ⟨S2x128x2x4x128, .f32⟩
  | 43 => ⟨S_, .f32⟩
  | 44 => ⟨S2x128x2x4x128, .f32⟩
  | 45 => ⟨S2x128x2x4x128, .f32⟩
  | 46 => ⟨S2x128x2x4x128x1, .f32⟩
  | 47 => ⟨S2x128x2x4x128x641, .f32⟩
  | 48 => ⟨S2x128x2x4x128x641, .f32⟩
  | 49 => ⟨S2x128x2x4x128x641, .f32⟩
  | 50 => ⟨S_, .f32⟩
  | 51 => ⟨S2x128x2x4x128, .f32⟩
  | 52 => ⟨S2x128x2x4x128x1, .f32⟩
  | 53 => ⟨S2x128x2x4x128x641, .f32⟩
  | 54 => ⟨S2x128x2x4x128x641, .f32⟩
  | 55 => ⟨S2x128x2x4x128x384, .f32⟩
  | 56 => ⟨S2x128x2x64x4x128, .f32⟩
  | 57 => ⟨S2x128x128x4x2x64, .f32⟩
  | 58 => ⟨S2x128x2x4x128x256, .f32⟩
  | 59 => ⟨S2x2x64x128x4x128, .f32⟩
  | 60 => ⟨S2x128x128x4x2x64, .f32⟩
  | 61 => ⟨S2x128x128x4x2x64, .f32⟩
  | 62 => ⟨S2x16384x512, .f32⟩
  | 63 => ⟨S2x16384x1024, .f32⟩
  | 64 => ⟨S2x16384x1024, .bf16⟩
  | 65 => ⟨S2x64x256, .f32⟩
  | _ => ⟨S2x16384x2304, .f32⟩

abbrev hbmTy (i : Nat) : BufTy := match i / 128 with
  | 0 => hbmTy0_0 i
  | 1 => hbmTy0_1 i
  | 2 => hbmTy0_2 i
  | 3 => hbmTy0_3 i
  | _ => ⟨S2x16384x2304, .f32⟩

abbrev bufTy : (tb : Table) → Fin (tcTables nBuf tb) → BufTy
  | .hbm, ⟨i, _⟩ => hbmTy i
  | _, _ => ⟨S2x16384x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_call0_v0 : Ref sig .tc := ⟨.hbm, 114, rfl⟩
abbrev main_call0_call0_cst : Ref sig .tc := ⟨.hbm, 115, rfl⟩
abbrev main_call0_call0_v0 : Ref sig .tc := ⟨.hbm, 116, rfl⟩
abbrev main_call0_call0_v1 : Ref sig .tc := ⟨.hbm, 117, rfl⟩
abbrev main_call0_call0_v2 : Ref sig .tc := ⟨.hbm, 118, rfl⟩
abbrev main_call0_call0_v3 : Ref sig .tc := ⟨.hbm, 119, rfl⟩
abbrev main_call0_call0_v4 : Ref sig .tc := ⟨.hbm, 120, rfl⟩
abbrev main_call0_call0_v5 : Ref sig .tc := ⟨.hbm, 121, rfl⟩
abbrev main_call0_call0_v6 : Ref sig .tc := ⟨.hbm, 122, rfl⟩
abbrev main_call0_call0_v7 : Ref sig .tc := ⟨.hbm, 123, rfl⟩
abbrev main_call0_call0_v8 : Ref sig .tc := ⟨.hbm, 124, rfl⟩
abbrev main_call0_call0_v9 : Ref sig .tc := ⟨.hbm, 125, rfl⟩
abbrev main_call0_call0_v10 : Ref sig .tc := ⟨.hbm, 126, rfl⟩
abbrev main_call0_call0_v11 : Ref sig .tc := ⟨.hbm, 127, rfl⟩
abbrev main_call0_v1 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_call1_v0 : Ref sig .tc := ⟨.hbm, 133, rfl⟩
abbrev main_call1_call0_cst : Ref sig .tc := ⟨.hbm, 134, rfl⟩
abbrev main_call1_call0_v0 : Ref sig .tc := ⟨.hbm, 135, rfl⟩
abbrev main_call1_call0_v1 : Ref sig .tc := ⟨.hbm, 136, rfl⟩
abbrev main_call1_call0_v2 : Ref sig .tc := ⟨.hbm, 137, rfl⟩
abbrev main_call1_call0_v3 : Ref sig .tc := ⟨.hbm, 138, rfl⟩
abbrev main_call1_call0_v4 : Ref sig .tc := ⟨.hbm, 139, rfl⟩
abbrev main_call1_call0_v5 : Ref sig .tc := ⟨.hbm, 140, rfl⟩
abbrev main_call1_call0_v6 : Ref sig .tc := ⟨.hbm, 141, rfl⟩
abbrev main_call1_call0_v7 : Ref sig .tc := ⟨.hbm, 142, rfl⟩
abbrev main_call1_call0_v8 : Ref sig .tc := ⟨.hbm, 143, rfl⟩
abbrev main_call1_call0_v9 : Ref sig .tc := ⟨.hbm, 144, rfl⟩
abbrev main_call1_call0_v10 : Ref sig .tc := ⟨.hbm, 145, rfl⟩
abbrev main_call1_call0_v11 : Ref sig .tc := ⟨.hbm, 146, rfl⟩
abbrev main_call1_v1 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_cst_12 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_cst_13 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_cst_14 : Ref sig .tc := ⟨.hbm, 168, rfl⟩
abbrev main_call2_v0 : Ref sig .tc := ⟨.hbm, 169, rfl⟩
abbrev main_call2_v1 : Ref sig .tc := ⟨.hbm, 170, rfl⟩
abbrev main_call2_v2 : Ref sig .tc := ⟨.hbm, 171, rfl⟩
abbrev main_v111 : Ref sig .tc := ⟨.hbm, 172, rfl⟩
abbrev main_v112 : Ref sig .tc := ⟨.hbm, 173, rfl⟩
abbrev main_cst_15 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_cst_16 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_cst_17 : Ref sig .tc := ⟨.hbm, 187, rfl⟩
abbrev main_call3_v0 : Ref sig .tc := ⟨.hbm, 188, rfl⟩
abbrev main_call3_v1 : Ref sig .tc := ⟨.hbm, 189, rfl⟩
abbrev main_call3_v2 : Ref sig .tc := ⟨.hbm, 190, rfl⟩
abbrev main_v124 : Ref sig .tc := ⟨.hbm, 191, rfl⟩
abbrev main_cst_18 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_cst_19 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_cst_20 : Ref sig .tc := ⟨.hbm, 219, rfl⟩
abbrev main_v150 : Ref sig .tc := ⟨.hbm, 220, rfl⟩
abbrev main_v151 : Ref sig .tc := ⟨.hbm, 221, rfl⟩
abbrev main_cst_21 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_cst_22 : Ref sig .tc := ⟨.hbm, 226, rfl⟩
abbrev main_v155 : Ref sig .tc := ⟨.hbm, 227, rfl⟩
abbrev main_v156 : Ref sig .tc := ⟨.hbm, 228, rfl⟩
abbrev main_cst_23 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_cst_24 : Ref sig .tc := ⟨.hbm, 237, rfl⟩
abbrev main_call4_v0 : Ref sig .tc := ⟨.hbm, 238, rfl⟩
abbrev main_call4_v1 : Ref sig .tc := ⟨.hbm, 239, rfl⟩
abbrev main_call4_v2 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_cst_25 : Ref sig .tc := ⟨.hbm, 246, rfl⟩
abbrev main_v169 : Ref sig .tc := ⟨.hbm, 247, rfl⟩
abbrev main_v170 : Ref sig .tc := ⟨.hbm, 248, rfl⟩
abbrev main_cst_26 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_cst_27 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_cst_28 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_cst_29 : Ref sig .tc := ⟨.hbm, 308, rfl⟩
abbrev main_v227 : Ref sig .tc := ⟨.hbm, 309, rfl⟩
abbrev main_v228 : Ref sig .tc := ⟨.hbm, 310, rfl⟩
abbrev main_cst_30 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_cst_31 : Ref sig .tc := ⟨.hbm, 319, rfl⟩
abbrev main_v236 : Ref sig .tc := ⟨.hbm, 320, rfl⟩
abbrev main_v237 : Ref sig .tc := ⟨.hbm, 321, rfl⟩
abbrev main_cst_32 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_cst_33 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_call5_v0 : Ref sig .tc := ⟨.hbm, 339, rfl⟩
abbrev main_call5_v1 : Ref sig .tc := ⟨.hbm, 340, rfl⟩
abbrev main_call5_cst : Ref sig .tc := ⟨.hbm, 341, rfl⟩
abbrev main_call5_v2 : Ref sig .tc := ⟨.hbm, 342, rfl⟩
abbrev main_call5_v3 : Ref sig .tc := ⟨.hbm, 343, rfl⟩
abbrev main_call5_cst_0 : Ref sig .tc := ⟨.hbm, 344, rfl⟩
abbrev main_call5_v4 : Ref sig .tc := ⟨.hbm, 345, rfl⟩
abbrev main_call5_v5 : Ref sig .tc := ⟨.hbm, 346, rfl⟩
abbrev main_v253 : Ref sig .tc := ⟨.hbm, 347, rfl⟩
abbrev main_v254 : Ref sig .tc := ⟨.hbm, 348, rfl⟩
abbrev main_v255 : Ref sig .tc := ⟨.hbm, 349, rfl⟩
abbrev main_c : Ref sig .tc := ⟨.hbm, 350, rfl⟩
abbrev main_call6_v0 : Ref sig .tc := ⟨.hbm, 351, rfl⟩
abbrev main_v256 : Ref sig .tc := ⟨.hbm, 352, rfl⟩
abbrev main_v257 : Ref sig .tc := ⟨.hbm, 353, rfl⟩
abbrev main_c_34 : Ref sig .tc := ⟨.hbm, 354, rfl⟩
abbrev main_call7_v0 : Ref sig .tc := ⟨.hbm, 355, rfl⟩
abbrev main_v258 : Ref sig .tc := ⟨.hbm, 356, rfl⟩
abbrev main_v259 : Ref sig .tc := ⟨.hbm, 357, rfl⟩
abbrev main_v260 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_v264 : Ref sig .tc := ⟨.hbm, 362, rfl⟩
abbrev main_v265 : Ref sig .tc := ⟨.hbm, 363, rfl⟩
abbrev main_v266 : Ref sig .tc := ⟨.hbm, 364, rfl⟩
abbrev main_v267 : Ref sig .tc := ⟨.hbm, 365, rfl⟩
abbrev main_v268 : Ref sig .tc := ⟨.hbm, 366, rfl⟩
abbrev main_v269 : Ref sig .tc := ⟨.hbm, 367, rfl⟩
abbrev main_v270 : Ref sig .tc := ⟨.hbm, 368, rfl⟩
abbrev main_c_35 : Ref sig .tc := ⟨.hbm, 369, rfl⟩
abbrev main_v271 : Ref sig .tc := ⟨.hbm, 370, rfl⟩
abbrev main_v272 : Ref sig .tc := ⟨.hbm, 371, rfl⟩
abbrev main_v273 : Ref sig .tc := ⟨.hbm, 372, rfl⟩
abbrev main_v274 : Ref sig .tc := ⟨.hbm, 373, rfl⟩
abbrev main_v275 : Ref sig .tc := ⟨.hbm, 374, rfl⟩
abbrev main_v276 : Ref sig .tc := ⟨.hbm, 375, rfl⟩
abbrev main_v277 : Ref sig .tc := ⟨.hbm, 376, rfl⟩
abbrev main_v278 : Ref sig .tc := ⟨.hbm, 377, rfl⟩
abbrev main_v279 : Ref sig .tc := ⟨.hbm, 378, rfl⟩
abbrev main_c_36 : Ref sig .tc := ⟨.hbm, 379, rfl⟩
abbrev main_v280 : Ref sig .tc := ⟨.hbm, 380, rfl⟩
abbrev main_v281 : Ref sig .tc := ⟨.hbm, 381, rfl⟩
abbrev main_v282 : Ref sig .tc := ⟨.hbm, 382, rfl⟩
abbrev main_v283 : Ref sig .tc := ⟨.hbm, 383, rfl⟩
abbrev main_c_37 : Ref sig .tc := ⟨.hbm, 384, rfl⟩
abbrev main_v284 : Ref sig .tc := ⟨.hbm, 385, rfl⟩
abbrev main_v285 : Ref sig .tc := ⟨.hbm, 386, rfl⟩
abbrev main_v286 : Ref sig .tc := ⟨.hbm, 387, rfl⟩
abbrev main_v287 : Ref sig .tc := ⟨.hbm, 388, rfl⟩
abbrev main_v288 : Ref sig .tc := ⟨.hbm, 389, rfl⟩
abbrev main_v289 : Ref sig .tc := ⟨.hbm, 390, rfl⟩
abbrev main_v290 : Ref sig .tc := ⟨.hbm, 391, rfl⟩
abbrev main_c_38 : Ref sig .tc := ⟨.hbm, 392, rfl⟩
abbrev main_v291 : Ref sig .tc := ⟨.hbm, 393, rfl⟩
abbrev main_v292 : Ref sig .tc := ⟨.hbm, 394, rfl⟩
abbrev main_c_39 : Ref sig .tc := ⟨.hbm, 395, rfl⟩
abbrev main_v293 : Ref sig .tc := ⟨.hbm, 396, rfl⟩
abbrev main_v294 : Ref sig .tc := ⟨.hbm, 397, rfl⟩
abbrev main_v295 : Ref sig .tc := ⟨.hbm, 398, rfl⟩
abbrev main_v296 : Ref sig .tc := ⟨.hbm, 399, rfl⟩
abbrev main_v297 : Ref sig .tc := ⟨.hbm, 400, rfl⟩
abbrev main_v298 : Ref sig .tc := ⟨.hbm, 401, rfl⟩
abbrev main_v299 : Ref sig .tc := ⟨.hbm, 402, rfl⟩
abbrev main_cst_40 : Ref sig .tc := ⟨.hbm, 403, rfl⟩
abbrev main_v300 : Ref sig .tc := ⟨.hbm, 404, rfl⟩
abbrev main_v301 : Ref sig .tc := ⟨.hbm, 405, rfl⟩
abbrev main_v302 : Ref sig .tc := ⟨.hbm, 406, rfl⟩
abbrev main_v303 : Ref sig .tc := ⟨.hbm, 407, rfl⟩
abbrev main_v304 : Ref sig .tc := ⟨.hbm, 408, rfl⟩
abbrev main_v305 : Ref sig .tc := ⟨.hbm, 409, rfl⟩
abbrev main_cst_41 : Ref sig .tc := ⟨.hbm, 410, rfl⟩
abbrev main_call8_v0 : Ref sig .tc := ⟨.hbm, 411, rfl⟩
abbrev main_call8_v1 : Ref sig .tc := ⟨.hbm, 412, rfl⟩
abbrev main_call8_v2 : Ref sig .tc := ⟨.hbm, 413, rfl⟩
abbrev main_v306 : Ref sig .tc := ⟨.hbm, 414, rfl⟩
abbrev main_v307 : Ref sig .tc := ⟨.hbm, 415, rfl⟩
abbrev main_v308 : Ref sig .tc := ⟨.hbm, 416, rfl⟩
abbrev main_v309 : Ref sig .tc := ⟨.hbm, 417, rfl⟩
abbrev main_v310 : Ref sig .tc := ⟨.hbm, 418, rfl⟩
abbrev main_v311 : Ref sig .tc := ⟨.hbm, 419, rfl⟩
abbrev main_v312 : Ref sig .tc := ⟨.hbm, 420, rfl⟩
abbrev main_v313 : Ref sig .tc := ⟨.hbm, 421, rfl⟩
abbrev main_v314 : Ref sig .tc := ⟨.hbm, 422, rfl⟩
abbrev main_v315 : Ref sig .tc := ⟨.hbm, 423, rfl⟩
abbrev main_v316 : Ref sig .tc := ⟨.hbm, 424, rfl⟩
abbrev main_cst_42 : Ref sig .tc := ⟨.hbm, 425, rfl⟩
abbrev main_v317 : Ref sig .tc := ⟨.hbm, 426, rfl⟩
abbrev main_cst_43 : Ref sig .tc := ⟨.hbm, 427, rfl⟩
abbrev main_v318 : Ref sig .tc := ⟨.hbm, 428, rfl⟩
abbrev main_v319 : Ref sig .tc := ⟨.hbm, 429, rfl⟩
abbrev main_v320 : Ref sig .tc := ⟨.hbm, 430, rfl⟩
abbrev main_v321 : Ref sig .tc := ⟨.hbm, 431, rfl⟩
abbrev main_v322 : Ref sig .tc := ⟨.hbm, 432, rfl⟩
abbrev main_v323 : Ref sig .tc := ⟨.hbm, 433, rfl⟩
abbrev main_cst_44 : Ref sig .tc := ⟨.hbm, 434, rfl⟩
abbrev main_v324 : Ref sig .tc := ⟨.hbm, 435, rfl⟩
abbrev main_v325 : Ref sig .tc := ⟨.hbm, 436, rfl⟩
abbrev main_v326 : Ref sig .tc := ⟨.hbm, 437, rfl⟩
abbrev main_v327 : Ref sig .tc := ⟨.hbm, 438, rfl⟩
abbrev main_v328 : Ref sig .tc := ⟨.hbm, 439, rfl⟩
abbrev main_v329 : Ref sig .tc := ⟨.hbm, 440, rfl⟩
abbrev main_v330 : Ref sig .tc := ⟨.hbm, 441, rfl⟩
abbrev main_v331 : Ref sig .tc := ⟨.hbm, 442, rfl⟩
abbrev main_v332 : Ref sig .tc := ⟨.hbm, 443, rfl⟩
abbrev main_v333 : Ref sig .tc := ⟨.hbm, 444, rfl⟩
abbrev main_v334 : Ref sig .tc := ⟨.hbm, 445, rfl⟩
abbrev main_v335 : Ref sig .tc := ⟨.hbm, 446, rfl⟩
abbrev main_v336 : Ref sig .tc := ⟨.hbm, 447, rfl⟩
abbrev main_v337 : Ref sig .tc := ⟨.hbm, 448, rfl⟩
abbrev main_v338 : Ref sig .tc := ⟨.hbm, 449, rfl⟩

abbrev nD : Nat := 1
abbrev τ : Topo := Topo.v7x

variable {F : FTy → Type} [FloatOps F]
-- ==== Kernel2.lean ====
abbrev S2x16384x1024 : Shape := ⟨3, ![2, 16384, 1024]⟩
abbrev S4x8x6x1024 : Shape := ⟨4, ![4, 8, 6, 1024]⟩
abbrev S4x1024 : Shape := ⟨2, ![4, 1024]⟩
abbrev S4x1024x1024 : Shape := ⟨3, ![4, 1024, 1024]⟩
abbrev S4x1024x2816 : Shape := ⟨3, ![4, 1024, 2816]⟩
abbrev S4x2816x1024 : Shape := ⟨3, ![4, 2816, 1024]⟩
abbrev S1024 : Shape := ⟨1, ![1024]⟩
abbrev S4x512x1024 : Shape := ⟨3, ![4, 512, 1024]⟩
abbrev S4x2x4x64x1024 : Shape := ⟨5, ![4, 2, 4, 64, 1024]⟩
abbrev S4x4x2x64x1024 : Shape := ⟨5, ![4, 4, 2, 64, 1024]⟩
abbrev S4x256x1024 : Shape := ⟨3, ![4, 256, 1024]⟩
abbrev S4x1x1024 : Shape := ⟨3, ![4, 1, 1024]⟩
abbrev S1x1024 : Shape := ⟨2, ![1, 1024]⟩
abbrev S1x1024x1024 : Shape := ⟨3, ![1, 1024, 1024]⟩
abbrev S1x1x6x1024 : Shape := ⟨4, ![1, 1, 6, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x512x1024 : Shape := ⟨3, ![1, 512, 1024]⟩
abbrev S512x1024 : Shape := ⟨2, ![512, 1024]⟩
abbrev S1024x1024 : Shape := ⟨2, ![1024, 1024]⟩
abbrev S1x1x1x1024 : Shape := ⟨4, ![1, 1, 1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 23
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S4x8x6x1024, .f32⟩
  | .hbm, ⟨3, _⟩ => ⟨S4x1024, .f32⟩
  | .hbm, ⟨4, _⟩ => ⟨S4x1024x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024, .f32⟩
  | .hbm, ⟨9, _⟩ => ⟨S4x1024x1024, .bf16⟩
  | .hbm, ⟨10, _⟩ => ⟨S4x512x1024, .bf16⟩
  | .hbm, ⟨11, _⟩ => ⟨S4x2x4x64x1024, .bf16⟩
  | .hbm, ⟨12, _⟩ => ⟨S4x4x2x64x1024, .bf16⟩
  | .hbm, ⟨13, _⟩ => ⟨S4x512x1024, .bf16⟩
  | .hbm, ⟨14, _⟩ => ⟨S4x256x1024, .bf16⟩
  | .hbm, ⟨15, _⟩ => ⟨S4x256x1024, .bf16⟩
  | .hbm, ⟨16, _⟩ => ⟨S4x1024x1024, .bf16⟩
  | .hbm, ⟨17, _⟩ => ⟨S4x1024x2816, .bf16⟩
  | .hbm, ⟨18, _⟩ => ⟨S4x1024x2816, .bf16⟩
  | .hbm, ⟨19, _⟩ => ⟨S4x2816x1024, .bf16⟩
  | .hbm, ⟨20, _⟩ => ⟨S4x1x1024, .f32⟩
  | .hbm, ⟨21, _⟩ => ⟨S1x1024, .f32⟩
  | .hbm, ⟨22, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1x6x1024, .f32⟩
  | .local _ .vmem, ⟨5, _⟩ => ⟨S1x1x6x1024, .f32⟩
  | .local _ .vmem, ⟨6, _⟩ => ⟨S1x1x1024, .f32⟩
  | .local _ .vmem, ⟨7, _⟩ => ⟨S1x1024x1024, .bf16⟩
  | .local _ .vmem, ⟨8, _⟩ => ⟨S1x1024x2816, .bf16⟩
  | .local _ .vmem, ⟨9, _⟩ => ⟨S1x1024x2816, .bf16⟩
  | .local _ .vmem, ⟨10, _⟩ => ⟨S1x2816x1024, .bf16⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S2x16384x1024 : Shape := ⟨3, ![2, 16384, 1024]⟩
abbrev S4x8x6x1024 : Shape := ⟨4, ![4, 8, 6, 1024]⟩
abbrev S4x1024 : Shape := ⟨2, ![4, 1024]⟩
abbrev S4x1024x1024 : Shape := ⟨3, ![4, 1024, 1024]⟩
abbrev S4x1024x2816 : Shape := ⟨3, ![4, 1024, 2816]⟩
abbrev S4x2816x1024 : Shape := ⟨3, ![4, 2816, 1024]⟩
abbrev S1024 : Shape := ⟨1, ![1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S2x16384x256 : Shape := ⟨3, ![2, 16384, 256]⟩
abbrev S2x16384x512 : Shape := ⟨3, ![2, 16384, 512]⟩
abbrev S2x16384x4x2x64 : Shape := ⟨5, ![2, 16384, 4, 2, 64]⟩
abbrev S2x16384x2x4x64 : Shape := ⟨5, ![2, 16384, 2, 4, 64]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S2x16384x2816 : Shape := ⟨3, ![2, 16384, 2816]⟩
abbrev S1x2816x1024 : Shape := ⟨3, ![1, 2816, 1024]⟩
abbrev S2816x1024 : Shape := ⟨2, ![2816, 1024]⟩

abbrev nBuf : Space → Nat
  | .hbm => 104
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S4x8x6x1024, .f32⟩
  | .hbm, ⟨3, _⟩ => ⟨S4x1024, .f32⟩
  | .hbm, ⟨4, _⟩ => ⟨S4x1024x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024, .f32⟩
  | .hbm, ⟨9, _⟩ => ⟨S1x2x1x1024, .f32⟩
  | .hbm, ⟨10, _⟩ => ⟨S2x1024, .f32⟩
  | .hbm, ⟨11, _⟩ => ⟨S2x1x1024, .f32⟩
  | .hbm, ⟨12, _⟩ => ⟨S1x2x1x1024, .f32⟩
  | .hbm, ⟨13, _⟩ => ⟨S2x1024, .f32⟩
  | .hbm, ⟨14, _⟩ => ⟨S2x1x1024, .f32⟩
  | .hbm, ⟨15, _⟩ => ⟨S1x2x1x1024, .f32⟩
  | .hbm, ⟨16, _⟩ => ⟨S2x1024, .f32⟩
  | .hbm, ⟨17, _⟩ => ⟨S2x1x1024, .f32⟩
  | .hbm, ⟨18, _⟩ => ⟨S1x2x1x1024, .f32⟩
  | .hbm, ⟨19, _⟩ => ⟨S2x1024, .f32⟩
  | .hbm, ⟨20, _⟩ => ⟨S2x1x1024, .f32⟩
  | .hbm, ⟨21, _⟩ => ⟨S1x2x1x1024, .f32⟩
  | .hbm, ⟨22, _⟩ => ⟨S2x1024, .f32⟩
  | .hbm, ⟨23, _⟩ => ⟨S2x1x1024, .f32⟩
  | .hbm, ⟨24, _⟩ => ⟨S1x2x1x1024, .f32⟩
  | .hbm, ⟨25, _⟩ => ⟨S2x1024, .f32⟩
  | .hbm, ⟨26, _⟩ => ⟨S2x1x1024, .f32⟩
  | .hbm, ⟨27, _⟩ => ⟨S2x16384x1024, .f32⟩
  | .hbm, ⟨28, _⟩ => ⟨S2x16384x256, .f32⟩
  | .hbm, ⟨29, _⟩ => ⟨S2x16384x512, .f32⟩
  | .hbm, ⟨30, _⟩ => ⟨S2x16384x256, .f32⟩
  | .hbm, ⟨31, _⟩ => ⟨S2x16384x4x2x64, .f32⟩
  | .hbm, ⟨32, _⟩ => ⟨S2x16384x2x4x64, .f32⟩
  | .hbm, ⟨33, _⟩ => ⟨S2x16384x512, .f32⟩
  | .hbm, ⟨34, _⟩ => ⟨S2x16384x1024, .f32⟩
  | .hbm, ⟨35, _⟩ => ⟨S1x1024x1024, .f32⟩
  | .hbm, ⟨36, _⟩ => ⟨S1024x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S1x1024, .f32⟩
  | .hbm, ⟨42, _⟩ => ⟨S1024, .f32⟩
  | .hbm, ⟨43, _⟩ => ⟨S2x16384x1024, .f32⟩
  | .hbm, ⟨44, _⟩ => ⟨S_, .f32⟩
  | .hbm, ⟨45, _⟩ => ⟨S2x16384, .f32⟩
  | .hbm, ⟨46, _⟩ => ⟨S2x16384x1, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S_, .f32⟩
  | .hbm, ⟨51, _⟩ => ⟨S2x16384x1, .f32⟩
  | .hbm, ⟨52, _⟩ => ⟨S2x16384x1, .f32⟩
  | .hbm, ⟨53, _⟩ => ⟨S2x16384x1, .f32⟩
  | .hbm, ⟨54, _⟩ => ⟨S2x16384x1024, .f32⟩
  | .hbm, ⟨55, _⟩ => ⟨S2x16384x1024, .f32⟩
  | .hbm, ⟨56, _⟩ => ⟨S1x1x1024, .f32⟩
  | .hbm, ⟨57, _⟩ => ⟨S2x16384x1024, .f32⟩
  | .hbm, ⟨58, _⟩ => ⟨S2x16384x1024, .f32⟩
  | .hbm, ⟨59, _⟩ => ⟨S_, .f32⟩
  | .hbm, ⟨60, _⟩ => ⟨S2x1x1024, .f32⟩
  | .hbm, ⟨61, _⟩ => ⟨S2x1x1024, .f32⟩
  | .hbm, ⟨62, _⟩ => ⟨S2x16384x1024, .f32⟩
  | .hbm, ⟨63, _⟩ => ⟨S2x16384x1024, .f32⟩
  | .hbm, ⟨64, _⟩ => ⟨S2x16384x1024, .f32⟩
  | .hbm, ⟨65, _⟩ => ⟨S2x16384x1024, .f32⟩
  | .hbm, ⟨66, _⟩ => ⟨S1x1024x2816, .f32⟩
  | .hbm, ⟨67, _⟩ => ⟨S1024x2816, .f32⟩
  | .hbm, ⟨68, _⟩ => ⟨S2x16384x2816, .f32⟩
  | .hbm, ⟨69, _⟩ => ⟨S2x16384x2816, .f32⟩
  | .hbm, ⟨70, _⟩ => ⟨S2x16384x2816, .f32⟩
  | .hbm, ⟨71, _⟩ => ⟨S_, .f32⟩
  | .hbm, ⟨72, _⟩ => ⟨S2x16384x2816, .f32⟩
  | .hbm, ⟨73, _⟩ => ⟨S2x16384x2816, .f32⟩
  | .hbm, ⟨74, _⟩ => ⟨S_, .f32⟩
  | .hbm, ⟨75, _⟩ => ⟨S2x16384x2816, .f32⟩
  | .hbm, ⟨76, _⟩ => ⟨S2x16384x2816, .f32⟩
  | .hbm, ⟨77, _⟩ => ⟨S2x16384x2816, .f32⟩
  | .hbm, ⟨78, _⟩ => ⟨S1x1024x2816, .f32⟩
  | .hbm, ⟨79, _⟩ => ⟨S1024x2816, .f32⟩
  | .hbm, ⟨80, _⟩ => ⟨S2x16384x2816, .f32⟩
  | .hbm, ⟨81, _⟩ => ⟨S2x16384x2816, .f32⟩
  | .hbm, ⟨82, _⟩ => ⟨S1x2816x1024, .f32⟩
  | .hbm, ⟨83, _⟩ => ⟨S2816x1024, .f32⟩
  | .hbm, ⟨84, _⟩ => ⟨S2x16384x1024, .f32⟩
  | .hbm, ⟨85, _⟩ => ⟨S2x16384x1024, .f32⟩
  | .hbm, ⟨86, _⟩ => ⟨S2x16384x1024, .f32⟩
  | .hbm, ⟨87, _⟩ => ⟨S2x16384x1024, .f32⟩
  | .hbm, ⟨88, _⟩ => ⟨S2x16384x1024, .f32⟩
  | .hbm, ⟨89, _⟩ => ⟨S_, .f32⟩
  | .hbm, ⟨90, _⟩ => ⟨S2x16384, .f32⟩
  | .hbm, ⟨91, _⟩ => ⟨S2x16384x1, .f32⟩
  | .hbm, ⟨92, _⟩ => ⟨S_, .f32⟩
  | .hbm, ⟨93, _⟩ => ⟨S2x16384x1, .f32⟩
  | .hbm, ⟨94, _⟩ => ⟨S2x16384x1, .f32⟩
  | .hbm, ⟨95, _⟩ => ⟨S_, .f32⟩
  | .hbm, ⟨96, _⟩ => ⟨S2x16384x1, .f32⟩
  | .hbm, ⟨97, _⟩ => ⟨S2x16384x1, .f32⟩
  | .hbm, ⟨98, _⟩ => ⟨S2x16384x1, .f32⟩
  | .hbm, ⟨99, _⟩ => ⟨S2x16384x1024, .f32⟩
  | .hbm, ⟨100, _⟩ => ⟨S2x16384x1024, .f32⟩
  | .hbm, ⟨101, _⟩ => ⟨S1x1x1024, .f32⟩
  | .hbm, ⟨102, _⟩ => ⟨S2x16384x1024, .f32⟩
  | .hbm, ⟨103, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst : Ref sig .tc := ⟨.hbm, 44, rfl⟩
abbrev main_v35 : Ref sig .tc := ⟨.hbm, 45, rfl⟩
abbrev main_v36 : Ref sig .tc := ⟨.hbm, 46, rfl⟩
abbrev main_cst_0 : Ref sig .tc := ⟨.hbm, 47, rfl⟩
abbrev main_v37 : Ref sig .tc := ⟨.hbm, 48, rfl⟩
abbrev main_v38 : Ref sig .tc := ⟨.hbm, 49, rfl⟩
abbrev main_cst_1 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_2 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_3 : Ref sig .tc := ⟨.hbm, 89, rfl⟩
abbrev main_v68 : Ref sig .tc := ⟨.hbm, 90, rfl⟩
abbrev main_v69 : Ref sig .tc := ⟨.hbm, 91, rfl⟩
abbrev main_cst_4 : Ref sig .tc := ⟨.hbm, 92, rfl⟩
abbrev main_v70 : Ref sig .tc := ⟨.hbm, 93, rfl⟩
abbrev main_v71 : Ref sig .tc := ⟨.hbm, 94, rfl⟩
abbrev main_cst_5 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== Kernel3.lean ====
abbrev S2x16384x1024 : Shape := ⟨3, ![2, 16384, 1024]⟩
abbrev S4x8x6x1024 : Shape := ⟨4, ![4, 8, 6, 1024]⟩
abbrev S4x1024 : Shape := ⟨2, ![4, 1024]⟩
abbrev S4x1024x1024 : Shape := ⟨3, ![4, 1024, 1024]⟩
abbrev S4x1024x2816 : Shape := ⟨3, ![4, 1024, 2816]⟩
abbrev S4x2816x1024 : Shape := ⟨3, ![4, 2816, 1024]⟩
abbrev S1024 : Shape := ⟨1, ![1024]⟩
abbrev S4x512x1024 : Shape := ⟨3, ![4, 512, 1024]⟩
abbrev S4x2x4x64x1024 : Shape := ⟨5, ![4, 2, 4, 64, 1024]⟩
abbrev S4x4x2x64x1024 : Shape := ⟨5, ![4, 4, 2, 64, 1024]⟩
abbrev S4x256x1024 : Shape := ⟨3, ![4, 256, 1024]⟩
abbrev S4x1x1024 : Shape := ⟨3, ![4, 1, 1024]⟩
abbrev S1x1024 : Shape := ⟨2, ![1, 1024]⟩
abbrev S1x1024x1024 : Shape := ⟨3, ![1, 1024, 1024]⟩
abbrev S1x1x6x1024 : Shape := ⟨4, ![1, 1, 6, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x512x1024 : Shape := ⟨3, ![1, 512, 1024]⟩
abbrev S512x1024 : Shape := ⟨2, ![512, 1024]⟩
abbrev S1024x1024 : Shape := ⟨2, ![1024, 1024]⟩
abbrev S1x1x1x1024 : Shape := ⟨4, ![1, 1, 1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 23
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S4x8x6x1024, .f32⟩
  | .hbm, ⟨3, _⟩ => ⟨S4x1024, .f32⟩
  | .hbm, ⟨4, _⟩ => ⟨S4x1024x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024, .f32⟩
  | .hbm, ⟨9, _⟩ => ⟨S4x1024x1024, .bf16⟩
  | .hbm, ⟨10, _⟩ => ⟨S4x512x1024, .bf16⟩
  | .hbm, ⟨11, _⟩ => ⟨S4x2x4x64x1024, .bf16⟩
  | .hbm, ⟨12, _⟩ => ⟨S4x4x2x64x1024, .bf16⟩
  | .hbm, ⟨13, _⟩ => ⟨S4x512x1024, .bf16⟩
  | .hbm, ⟨14, _⟩ => ⟨S4x256x1024, .bf16⟩
  | .hbm, ⟨15, _⟩ => ⟨S4x256x1024, .bf16⟩
  | .hbm, ⟨16, _⟩ => ⟨S4x1024x1024, .bf16⟩
  | .hbm, ⟨17, _⟩ => ⟨S4x1024x2816, .bf16⟩
  | .hbm, ⟨18, _⟩ => ⟨S4x1024x2816, .bf16⟩
  | .hbm, ⟨19, _⟩ => ⟨S4x2816x1024, .bf16⟩
  | .hbm, ⟨20, _⟩ => ⟨S4x1x1024, .f32⟩
  | .hbm, ⟨21, _⟩ => ⟨S1x1024, .f32⟩
  | .hbm, ⟨22, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1x6x1024, .f32⟩
  | .local _ .vmem, ⟨5, _⟩ => ⟨S1x1x6x1024, .f32⟩
  | .local _ .vmem, ⟨6, _⟩ => ⟨S1x1x1024, .f32⟩
  | .local _ .vmem, ⟨7, _⟩ => ⟨S1x1024x1024, .bf16⟩
  | .local _ .vmem, ⟨8, _⟩ => ⟨S1x1024x2816, .bf16⟩
  | .local _ .vmem, ⟨9, _⟩ => ⟨S1x1024x2816, .bf16⟩
  | .local _ .vmem, ⟨10, _⟩ => ⟨S1x2816x1024, .bf16⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S2x16384x1024 : Shape := ⟨3, ![2, 16384, 1024]⟩
abbrev S4x8x6x1024 : Shape := ⟨4, ![4, 8, 6, 1024]⟩
abbrev S4x1024 : Shape := ⟨2, ![4, 1024]⟩
abbrev S4x1024x1024 : Shape := ⟨3, ![4, 1024, 1024]⟩
abbrev S4x1024x2816 : Shape := ⟨3, ![4, 1024, 2816]⟩
abbrev S4x2816x1024 : Shape := ⟨3, ![4, 2816, 1024]⟩
abbrev S1024 : Shape := ⟨1, ![1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S2x16384x256 : Shape := ⟨3, ![2, 16384, 256]⟩
abbrev S2x16384x512 : Shape := ⟨3, ![2, 16384, 512]⟩
abbrev S2x16384x4x2x64 : Shape := ⟨5, ![2, 16384, 4, 2, 64]⟩
abbrev S2x16384x2x4x64 : Shape := ⟨5, ![2, 16384, 2, 4, 64]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S2x16384x2816 : Shape := ⟨3, ![2, 16384, 2816]⟩
abbrev S1x2816x1024 : Shape := ⟨3, ![1, 2816, 1024]⟩
abbrev S2816x1024 : Shape := ⟨2, ![2816, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S4x8x6x1024, .f32⟩
  | .hbm, ⟨3, _⟩ => ⟨S4x1024, .f32⟩
  | .hbm, ⟨4, _⟩ => ⟨S4x1024x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024, .f32⟩
  | .hbm, ⟨9, _⟩ => ⟨S1x2x1x1024, .f32⟩
  | .hbm, ⟨10, _⟩ => ⟨S2x1024, .f32⟩
  | .hbm, ⟨11, _⟩ => ⟨S2x1x1024, .f32⟩
  | .hbm, ⟨12, _⟩ => ⟨S1x2x1x1024, .f32⟩
  | .hbm, ⟨13, _⟩ => ⟨S2x1024, .f32⟩
  | .hbm, ⟨14, _⟩ => ⟨S2x1x1024, .f32⟩
  | .hbm, ⟨15, _⟩ => ⟨S1x2x1x1024, .f32⟩
  | .hbm, ⟨16, _⟩ => ⟨S2x1024, .f32⟩
  | .hbm, ⟨17, _⟩ => ⟨S2x1x1024, .f32⟩
  | .hbm, ⟨18, _⟩ => ⟨S1x2x1x1024, .f32⟩
  | .hbm, ⟨19, _⟩ => ⟨S2x1024, .f32⟩
  | .hbm, ⟨20, _⟩ => ⟨S2x1x1024, .f32⟩
  | .hbm, ⟨21, _⟩ => ⟨S1x2x1x1024, .f32⟩
  | .hbm, ⟨22, _⟩ => ⟨S2x1024, .f32⟩
  | .hbm, ⟨23, _⟩ => ⟨S2x1x1024, .f32⟩
  | .hbm, ⟨24, _⟩ => ⟨S1x2x1x1024, .f32⟩
  | .hbm, ⟨25, _⟩ => ⟨S2x1024, .f32⟩
  | .hbm, ⟨26, _⟩ => ⟨S2x1x1024, .f32⟩
  | .hbm, ⟨27, _⟩ => ⟨S2x16384x1024, .f32⟩
  | .hbm, ⟨28, _⟩ => ⟨S2x16384x256, .f32⟩
  | .hbm, ⟨29, _⟩ => ⟨S2x16384x512, .f32⟩
  | .hbm, ⟨30, _⟩ => ⟨S2x16384x256, .f32⟩
  | .hbm, ⟨31, _⟩ => ⟨S2x16384x4x2x64, .f32⟩
  | .hbm, ⟨32, _⟩ => ⟨S2x16384x2x4x64, .f32⟩
  | .hbm, ⟨33, _⟩ => ⟨S2x16384x512, .f32⟩
  | .hbm, ⟨34, _⟩ => ⟨S2x16384x1024, .f32⟩
  | .hbm, ⟨35, _⟩ => ⟨S1x1024x1024, .f32⟩
  | .hbm, ⟨36, _⟩ => ⟨S1024x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S1x1024, .f32⟩
  | .hbm, ⟨42, _⟩ => ⟨S1024, .f32⟩
  | .hbm, ⟨43, _⟩ => ⟨S2x16384x1024, .f32⟩
  | .hbm, ⟨44, _⟩ => ⟨S_, .f32⟩
  | .hbm, ⟨45, _⟩ => ⟨S2x16384, .f32⟩
  | .hbm, ⟨46, _⟩ => ⟨S2x16384x1, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S_, .f32⟩
  | .hbm, ⟨51, _⟩ => ⟨S2x16384x1, .f32⟩
  | .hbm, ⟨52, _⟩ => ⟨S2x16384x1, .f32⟩
  | .hbm, ⟨53, _⟩ => ⟨S2x16384x1, .f32⟩
  | .hbm, ⟨54, _⟩ => ⟨S2x16384x1024, .f32⟩
  | .hbm, ⟨55, _⟩ => ⟨S2x16384x1024, .f32⟩
  | .hbm, ⟨56, _⟩ => ⟨S1x1x1024, .f32⟩
  | .hbm, ⟨57, _⟩ => ⟨S2x16384x1024, .f32⟩
  | .hbm, ⟨58, _⟩ => ⟨S2x16384x1024, .f32⟩
  | .hbm, ⟨59, _⟩ => ⟨S_, .f32⟩
  | .hbm, ⟨60, _⟩ => ⟨S2x1x1024, .f32⟩
  | .hbm, ⟨61, _⟩ => ⟨S2x1x1024, .f32⟩
  | .hbm, ⟨62, _⟩ => ⟨S2x16384x1024, .f32⟩
  | .hbm, ⟨63, _⟩ => ⟨S2x16384x1024, .f32⟩
  | .hbm, ⟨64, _⟩ => ⟨S2x16384x1024, .f32⟩
  | .hbm, ⟨65, _⟩ => ⟨S2x16384x1024, .f32⟩
  | .hbm, ⟨66, _⟩ => ⟨S1x1024x2816, .f32⟩
  | .hbm, ⟨67, _⟩ => ⟨S1024x2816, .f32⟩
  | .hbm, ⟨68, _⟩ => ⟨S2x16384x2816, .f32⟩
  | .hbm, ⟨69, _⟩ => ⟨S2x16384x2816, .f32⟩
  | .hbm, ⟨70, _⟩ => ⟨S2x16384x2816, .f32⟩
  | .hbm, ⟨71, _⟩ => ⟨S_, .f32⟩
  | .hbm, ⟨72, _⟩ => ⟨S2x16384x2816, .f32⟩
  | .hbm, ⟨73, _⟩ => ⟨S2x16384x2816, .f32⟩
  | .hbm, ⟨74, _⟩ => ⟨S_, .f32⟩
  | .hbm, ⟨75, _⟩ => ⟨S2x16384x2816, .f32⟩
  | .hbm, ⟨76, _⟩ => ⟨S2x16384x2816, .f32⟩
  | .hbm, ⟨77, _⟩ => ⟨S2x16384x2816, .f32⟩
  | .hbm, ⟨78, _⟩ => ⟨S1x1024x2816, .f32⟩
  | .hbm, ⟨79, _⟩ => ⟨S1024x2816, .f32⟩
  | .hbm, ⟨80, _⟩ => ⟨S2x16384x2816, .f32⟩
  | .hbm, ⟨81, _⟩ => ⟨S2x16384x2816, .f32⟩
  | .hbm, ⟨82, _⟩ => ⟨S1x2816x1024, .f32⟩
  | .hbm, ⟨83, _⟩ => ⟨S2816x1024, .f32⟩
  | .hbm, ⟨84, _⟩ => ⟨S2x16384x1024, .f32⟩
  | .hbm, ⟨85, _⟩ => ⟨S2x16384x1024, .f32⟩
  | .hbm, ⟨86, _⟩ => ⟨S2x16384x1024, .f32⟩
  | .hbm, ⟨87, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst : Ref sig .tc := ⟨.hbm, 44, rfl⟩
abbrev main_v35 : Ref sig .tc := ⟨.hbm, 45, rfl⟩
abbrev main_v36 : Ref sig .tc := ⟨.hbm, 46, rfl⟩
abbrev main_cst_0 : Ref sig .tc := ⟨.hbm, 47, rfl⟩
abbrev main_v37 : Ref sig .tc := ⟨.hbm, 48, rfl⟩
abbrev main_v38 : Ref sig .tc := ⟨.hbm, 49, rfl⟩
abbrev main_cst_1 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_2 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Kernel4.lean ====
abbrev S2x16384x1024 : Shape := ⟨3, ![2, 16384, 1024]⟩
abbrev S4x8x6x1024 : Shape := ⟨4, ![4, 8, 6, 1024]⟩
abbrev S4x1024 : Shape := ⟨2, ![4, 1024]⟩
abbrev S4x1024x1024 : Shape := ⟨3, ![4, 1024, 1024]⟩
abbrev S4x1024x2816 : Shape := ⟨3, ![4, 1024, 2816]⟩
abbrev S4x2816x1024 : Shape := ⟨3, ![4, 2816, 1024]⟩
abbrev S1024 : Shape := ⟨1, ![1024]⟩
abbrev S4x512x1024 : Shape := ⟨3, ![4, 512, 1024]⟩
abbrev S4x2x4x64x1024 : Shape := ⟨5, ![4, 2, 4, 64, 1024]⟩
abbrev S4x4x2x64x1024 : Shape := ⟨5, ![4, 4, 2, 64, 1024]⟩
abbrev S4x256x1024 : Shape := ⟨3, ![4, 256, 1024]⟩
abbrev S4x1x1024 : Shape := ⟨3, ![4, 1, 1024]⟩
abbrev S1x1024 : Shape := ⟨2, ![1, 1024]⟩
abbrev S1x1024x1024 : Shape := ⟨3, ![1, 1024, 1024]⟩
abbrev S1x1x6x1024 : Shape := ⟨4, ![1, 1, 6, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x512x1024 : Shape := ⟨3, ![1, 512, 1024]⟩
abbrev S512x1024 : Shape := ⟨2, ![512, 1024]⟩
abbrev S1024x1024 : Shape := ⟨2, ![1024, 1024]⟩
abbrev S1x1x1x1024 : Shape := ⟨4, ![1, 1, 1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 23
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S4x8x6x1024, .f32⟩
  | .hbm, ⟨3, _⟩ => ⟨S4x1024, .f32⟩
  | .hbm, ⟨4, _⟩ => ⟨S4x1024x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024, .f32⟩
  | .hbm, ⟨9, _⟩ => ⟨S4x1024x1024, .bf16⟩
  | .hbm, ⟨10, _⟩ => ⟨S4x512x1024, .bf16⟩
  | .hbm, ⟨11, _⟩ => ⟨S4x2x4x64x1024, .bf16⟩
  | .hbm, ⟨12, _⟩ => ⟨S4x4x2x64x1024, .bf16⟩
  | .hbm, ⟨13, _⟩ => ⟨S4x512x1024, .bf16⟩
  | .hbm, ⟨14, _⟩ => ⟨S4x256x1024, .bf16⟩
  | .hbm, ⟨15, _⟩ => ⟨S4x256x1024, .bf16⟩
  | .hbm, ⟨16, _⟩ => ⟨S4x1024x1024, .bf16⟩
  | .hbm, ⟨17, _⟩ => ⟨S4x1024x2816, .bf16⟩
  | .hbm, ⟨18, _⟩ => ⟨S4x1024x2816, .bf16⟩
  | .hbm, ⟨19, _⟩ => ⟨S4x2816x1024, .bf16⟩
  | .hbm, ⟨20, _⟩ => ⟨S4x1x1024, .f32⟩
  | .hbm, ⟨21, _⟩ => ⟨S1x1024, .f32⟩
  | .hbm, ⟨22, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1x6x1024, .f32⟩
  | .local _ .vmem, ⟨5, _⟩ => ⟨S1x1x6x1024, .f32⟩
  | .local _ .vmem, ⟨6, _⟩ => ⟨S1x1x1024, .f32⟩
  | .local _ .vmem, ⟨7, _⟩ => ⟨S1x1024x1024, .bf16⟩
  | .local _ .vmem, ⟨8, _⟩ => ⟨S1x1024x2816, .bf16⟩
  | .local _ .vmem, ⟨9, _⟩ => ⟨S1x1024x2816, .bf16⟩
  | .local _ .vmem, ⟨10, _⟩ => ⟨S1x2816x1024, .bf16⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S2x16384x1024 : Shape := ⟨3, ![2, 16384, 1024]⟩
abbrev S4x8x6x1024 : Shape := ⟨4, ![4, 8, 6, 1024]⟩
abbrev S4x1024 : Shape := ⟨2, ![4, 1024]⟩
abbrev S4x1024x1024 : Shape := ⟨3, ![4, 1024, 1024]⟩
abbrev S4x1024x2816 : Shape := ⟨3, ![4, 1024, 2816]⟩
abbrev S4x2816x1024 : Shape := ⟨3, ![4, 2816, 1024]⟩
abbrev S1024 : Shape := ⟨1, ![1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S2x16384x256 : Shape := ⟨3, ![2, 16384, 256]⟩
abbrev S2x16384x512 : Shape := ⟨3, ![2, 16384, 512]⟩
abbrev S2x16384x4x2x64 : Shape := ⟨5, ![2, 16384, 4, 2, 64]⟩
abbrev S2x16384x2x4x64 : Shape := ⟨5, ![2, 16384, 2, 4, 64]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S2x16384x2816 : Shape := ⟨3, ![2, 16384, 2816]⟩
abbrev S1x2816x1024 : Shape := ⟨3, ![1, 2816, 1024]⟩
abbrev S2816x1024 : Shape := ⟨2, ![2816, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S4x8x6x1024, .f32⟩
  | .hbm, ⟨3, _⟩ => ⟨S4x1024, .f32⟩
  | .hbm, ⟨4, _⟩ => ⟨S4x1024x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024, .f32⟩
  | .hbm, ⟨9, _⟩ => ⟨S1x2x1x1024, .f32⟩
  | .hbm, ⟨10, _⟩ => ⟨S2x1024, .f32⟩
  | .hbm, ⟨11, _⟩ => ⟨S2x1x1024, .f32⟩
  | .hbm, ⟨12, _⟩ => ⟨S1x2x1x1024, .f32⟩
  | .hbm, ⟨13, _⟩ => ⟨S2x1024, .f32⟩
  | .hbm, ⟨14, _⟩ => ⟨S2x1x1024, .f32⟩
  | .hbm, ⟨15, _⟩ => ⟨S1x2x1x1024, .f32⟩
  | .hbm, ⟨16, _⟩ => ⟨S2x1024, .f32⟩
  | .hbm, ⟨17, _⟩ => ⟨S2x1x1024, .f32⟩
  | .hbm, ⟨18, _⟩ => ⟨S1x2x1x1024, .f32⟩
  | .hbm, ⟨19, _⟩ => ⟨S2x1024, .f32⟩
  | .hbm, ⟨20, _⟩ => ⟨S2x1x1024, .f32⟩
  | .hbm, ⟨21, _⟩ => ⟨S1x2x1x1024, .f32⟩
  | .hbm, ⟨22, _⟩ => ⟨S2x1024, .f32⟩
  | .hbm, ⟨23, _⟩ => ⟨S2x1x1024, .f32⟩
  | .hbm, ⟨24, _⟩ => ⟨S1x2x1x1024, .f32⟩
  | .hbm, ⟨25, _⟩ => ⟨S2x1024, .f32⟩
  | .hbm, ⟨26, _⟩ => ⟨S2x1x1024, .f32⟩
  | .hbm, ⟨27, _⟩ => ⟨S2x16384x1024, .f32⟩
  | .hbm, ⟨28, _⟩ => ⟨S2x16384x256, .f32⟩
  | .hbm, ⟨29, _⟩ => ⟨S2x16384x512, .f32⟩
  | .hbm, ⟨30, _⟩ => ⟨S2x16384x256, .f32⟩
  | .hbm, ⟨31, _⟩ => ⟨S2x16384x4x2x64, .f32⟩
  | .hbm, ⟨32, _⟩ => ⟨S2x16384x2x4x64, .f32⟩
  | .hbm, ⟨33, _⟩ => ⟨S2x16384x512, .f32⟩
  | .hbm, ⟨34, _⟩ => ⟨S2x16384x1024, .f32⟩
  | .hbm, ⟨35, _⟩ => ⟨S1x1024x1024, .f32⟩
  | .hbm, ⟨36, _⟩ => ⟨S1024x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S1x1024, .f32⟩
  | .hbm, ⟨42, _⟩ => ⟨S1024, .f32⟩
  | .hbm, ⟨43, _⟩ => ⟨S2x16384x1024, .f32⟩
  | .hbm, ⟨44, _⟩ => ⟨S_, .f32⟩
  | .hbm, ⟨45, _⟩ => ⟨S2x16384, .f32⟩
  | .hbm, ⟨46, _⟩ => ⟨S2x16384x1, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S_, .f32⟩
  | .hbm, ⟨51, _⟩ => ⟨S2x16384x1, .f32⟩
  | .hbm, ⟨52, _⟩ => ⟨S2x16384x1, .f32⟩
  | .hbm, ⟨53, _⟩ => ⟨S2x16384x1, .f32⟩
  | .hbm, ⟨54, _⟩ => ⟨S2x16384x1024, .f32⟩
  | .hbm, ⟨55, _⟩ => ⟨S2x16384x1024, .f32⟩
  | .hbm, ⟨56, _⟩ => ⟨S1x1x1024, .f32⟩
  | .hbm, ⟨57, _⟩ => ⟨S2x16384x1024, .f32⟩
  | .hbm, ⟨58, _⟩ => ⟨S2x16384x1024, .f32⟩
  | .hbm, ⟨59, _⟩ => ⟨S_, .f32⟩
  | .hbm, ⟨60, _⟩ => ⟨S2x1x1024, .f32⟩
  | .hbm, ⟨61, _⟩ => ⟨S2x1x1024, .f32⟩
  | .hbm, ⟨62, _⟩ => ⟨S2x16384x1024, .f32⟩
  | .hbm, ⟨63, _⟩ => ⟨S2x16384x1024, .f32⟩
  | .hbm, ⟨64, _⟩ => ⟨S2x16384x1024, .f32⟩
  | .hbm, ⟨65, _⟩ => ⟨S2x16384x1024, .f32⟩
  | .hbm, ⟨66, _⟩ => ⟨S1x1024x2816, .f32⟩
  | .hbm, ⟨67, _⟩ => ⟨S1024x2816, .f32⟩
  | .hbm, ⟨68, _⟩ => ⟨S2x16384x2816, .f32⟩
  | .hbm, ⟨69, _⟩ => ⟨S2x16384x2816, .f32⟩
  | .hbm, ⟨70, _⟩ => ⟨S2x16384x2816, .f32⟩
  | .hbm, ⟨71, _⟩ => ⟨S_, .f32⟩
  | .hbm, ⟨72, _⟩ => ⟨S2x16384x2816, .f32⟩
  | .hbm, ⟨73, _⟩ => ⟨S2x16384x2816, .f32⟩
  | .hbm, ⟨74, _⟩ => ⟨S_, .f32⟩
  | .hbm, ⟨75, _⟩ => ⟨S2x16384x2816, .f32⟩
  | .hbm, ⟨76, _⟩ => ⟨S2x16384x2816, .f32⟩
  | .hbm, ⟨77, _⟩ => ⟨S2x16384x2816, .f32⟩
  | .hbm, ⟨78, _⟩ => ⟨S1x1024x2816, .f32⟩
  | .hbm, ⟨79, _⟩ => ⟨S1024x2816, .f32⟩
  | .hbm, ⟨80, _⟩ => ⟨S2x16384x2816, .f32⟩
  | .hbm, ⟨81, _⟩ => ⟨S2x16384x2816, .f32⟩
  | .hbm, ⟨82, _⟩ => ⟨S1x2816x1024, .f32⟩
  | .hbm, ⟨83, _⟩ => ⟨S2816x1024, .f32⟩
  | .hbm, ⟨84, _⟩ => ⟨S2x16384x1024, .f32⟩
  | .hbm, ⟨85, _⟩ => ⟨S2x16384x1024, .f32⟩
  | .hbm, ⟨86, _⟩ => ⟨S2x16384x1024, .f32⟩
  | .hbm, ⟨87, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst : Ref sig .tc := ⟨.hbm, 44, rfl⟩
abbrev main_v35 : Ref sig .tc := ⟨.hbm, 45, rfl⟩
abbrev main_v36 : Ref sig .tc := ⟨.hbm, 46, rfl⟩
abbrev main_cst_0 : Ref sig .tc := ⟨.hbm, 47, rfl⟩
abbrev main_v37 : Ref sig .tc := ⟨.hbm, 48, rfl⟩
abbrev main_v38 : Ref sig .tc := ⟨.hbm, 49, rfl⟩
abbrev main_cst_1 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_2 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Kernel5.lean ====
abbrev S2x16384x1024 : Shape := ⟨3, ![2, 16384, 1024]⟩
abbrev S4x8x6x1024 : Shape := ⟨4, ![4, 8, 6, 1024]⟩
abbrev S4x1024 : Shape := ⟨2, ![4, 1024]⟩
abbrev S4x1024x1024 : Shape := ⟨3, ![4, 1024, 1024]⟩
abbrev S4x1024x2816 : Shape := ⟨3, ![4, 1024, 2816]⟩
abbrev S4x2816x1024 : Shape := ⟨3, ![4, 2816, 1024]⟩
abbrev S1024 : Shape := ⟨1, ![1024]⟩
abbrev S4x512x1024 : Shape := ⟨3, ![4, 512, 1024]⟩
abbrev S4x2x4x64x1024 : Shape := ⟨5, ![4, 2, 4, 64, 1024]⟩
abbrev S4x4x2x64x1024 : Shape := ⟨5, ![4, 4, 2, 64, 1024]⟩
abbrev S4x256x1024 : Shape := ⟨3, ![4, 256, 1024]⟩
abbrev S4x1x1024 : Shape := ⟨3, ![4, 1, 1024]⟩
abbrev S1x1024 : Shape := ⟨2, ![1, 1024]⟩
abbrev S1x1024x1024 : Shape := ⟨3, ![1, 1024, 1024]⟩
abbrev S1x1x6x1024 : Shape := ⟨4, ![1, 1, 6, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x512x1024 : Shape := ⟨3, ![1, 512, 1024]⟩
abbrev S512x1024 : Shape := ⟨2, ![512, 1024]⟩
abbrev S1024x1024 : Shape := ⟨2, ![1024, 1024]⟩
abbrev S1x1x1x1024 : Shape := ⟨4, ![1, 1, 1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 23
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S4x8x6x1024, .f32⟩
  | .hbm, ⟨3, _⟩ => ⟨S4x1024, .f32⟩
  | .hbm, ⟨4, _⟩ => ⟨S4x1024x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024, .f32⟩
  | .hbm, ⟨9, _⟩ => ⟨S4x1024x1024, .bf16⟩
  | .hbm, ⟨10, _⟩ => ⟨S4x512x1024, .bf16⟩
  | .hbm, ⟨11, _⟩ => ⟨S4x2x4x64x1024, .bf16⟩
  | .hbm, ⟨12, _⟩ => ⟨S4x4x2x64x1024, .bf16⟩
  | .hbm, ⟨13, _⟩ => ⟨S4x512x1024, .bf16⟩
  | .hbm, ⟨14, _⟩ => ⟨S4x256x1024, .bf16⟩
  | .hbm, ⟨15, _⟩ => ⟨S4x256x1024, .bf16⟩
  | .hbm, ⟨16, _⟩ => ⟨S4x1024x1024, .bf16⟩
  | .hbm, ⟨17, _⟩ => ⟨S4x1024x2816, .bf16⟩
  | .hbm, ⟨18, _⟩ => ⟨S4x1024x2816, .bf16⟩
  | .hbm, ⟨19, _⟩ => ⟨S4x2816x1024, .bf16⟩
  | .hbm, ⟨20, _⟩ => ⟨S4x1x1024, .f32⟩
  | .hbm, ⟨21, _⟩ => ⟨S1x1024, .f32⟩
  | .hbm, ⟨22, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1x6x1024, .f32⟩
  | .local _ .vmem, ⟨5, _⟩ => ⟨S1x1x6x1024, .f32⟩
  | .local _ .vmem, ⟨6, _⟩ => ⟨S1x1x1024, .f32⟩
  | .local _ .vmem, ⟨7, _⟩ => ⟨S1x1024x1024, .bf16⟩
  | .local _ .vmem, ⟨8, _⟩ => ⟨S1x1024x2816, .bf16⟩
  | .local _ .vmem, ⟨9, _⟩ => ⟨S1x1024x2816, .bf16⟩
  | .local _ .vmem, ⟨10, _⟩ => ⟨S1x2816x1024, .bf16⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S2x16384x1024 : Shape := ⟨3, ![2, 16384, 1024]⟩
abbrev S4x8x6x1024 : Shape := ⟨4, ![4, 8, 6, 1024]⟩
abbrev S4x1024 : Shape := ⟨2, ![4, 1024]⟩
abbrev S4x1024x1024 : Shape := ⟨3, ![4, 1024, 1024]⟩
abbrev S4x1024x2816 : Shape := ⟨3, ![4, 1024, 2816]⟩
abbrev S4x2816x1024 : Shape := ⟨3, ![4, 2816, 1024]⟩
abbrev S1024 : Shape := ⟨1, ![1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S2x16384x256 : Shape := ⟨3, ![2, 16384, 256]⟩
abbrev S2x16384x512 : Shape := ⟨3, ![2, 16384, 512]⟩
abbrev S2x16384x4x2x64 : Shape := ⟨5, ![2, 16384, 4, 2, 64]⟩
abbrev S2x16384x2x4x64 : Shape := ⟨5, ![2, 16384, 2, 4, 64]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S2x16384x2816 : Shape := ⟨3, ![2, 16384, 2816]⟩
abbrev S1x2816x1024 : Shape := ⟨3, ![1, 2816, 1024]⟩
abbrev S2816x1024 : Shape := ⟨2, ![2816, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S4x8x6x1024, .f32⟩
  | .hbm, ⟨3, _⟩ => ⟨S4x1024, .f32⟩
  | .hbm, ⟨4, _⟩ => ⟨S4x1024x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024, .f32⟩
  | .hbm, ⟨9, _⟩ => ⟨S1x2x1x1024, .f32⟩
  | .hbm, ⟨10, _⟩ => ⟨S2x1024, .f32⟩
  | .hbm, ⟨11, _⟩ => ⟨S2x1x1024, .f32⟩
  | .hbm, ⟨12, _⟩ => ⟨S1x2x1x1024, .f32⟩
  | .hbm, ⟨13, _⟩ => ⟨S2x1024, .f32⟩
  | .hbm, ⟨14, _⟩ => ⟨S2x1x1024, .f32⟩
  | .hbm, ⟨15, _⟩ => ⟨S1x2x1x1024, .f32⟩
  | .hbm, ⟨16, _⟩ => ⟨S2x1024, .f32⟩
  | .hbm, ⟨17, _⟩ => ⟨S2x1x1024, .f32⟩
  | .hbm, ⟨18, _⟩ => ⟨S1x2x1x1024, .f32⟩
  | .hbm, ⟨19, _⟩ => ⟨S2x1024, .f32⟩
  | .hbm, ⟨20, _⟩ => ⟨S2x1x1024, .f32⟩
  | .hbm, ⟨21, _⟩ => ⟨S1x2x1x1024, .f32⟩
  | .hbm, ⟨22, _⟩ => ⟨S2x1024, .f32⟩
  | .hbm, ⟨23, _⟩ => ⟨S2x1x1024, .f32⟩
  | .hbm, ⟨24, _⟩ => ⟨S1x2x1x1024, .f32⟩
  | .hbm, ⟨25, _⟩ => ⟨S2x1024, .f32⟩
  | .hbm, ⟨26, _⟩ => ⟨S2x1x1024, .f32⟩
  | .hbm, ⟨27, _⟩ => ⟨S2x16384x1024, .f32⟩
  | .hbm, ⟨28, _⟩ => ⟨S2x16384x256, .f32⟩
  | .hbm, ⟨29, _⟩ => ⟨S2x16384x512, .f32⟩
  | .hbm, ⟨30, _⟩ => ⟨S2x16384x256, .f32⟩
  | .hbm, ⟨31, _⟩ => ⟨S2x16384x4x2x64, .f32⟩
  | .hbm, ⟨32, _⟩ => ⟨S2x16384x2x4x64, .f32⟩
  | .hbm, ⟨33, _⟩ => ⟨S2x16384x512, .f32⟩
  | .hbm, ⟨34, _⟩ => ⟨S2x16384x1024, .f32⟩
  | .hbm, ⟨35, _⟩ => ⟨S1x1024x1024, .f32⟩
  | .hbm, ⟨36, _⟩ => ⟨S1024x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S1x1024, .f32⟩
  | .hbm, ⟨42, _⟩ => ⟨S1024, .f32⟩
  | .hbm, ⟨43, _⟩ => ⟨S2x16384x1024, .f32⟩
  | .hbm, ⟨44, _⟩ => ⟨S_, .f32⟩
  | .hbm, ⟨45, _⟩ => ⟨S2x16384, .f32⟩
  | .hbm, ⟨46, _⟩ => ⟨S2x16384x1, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S_, .f32⟩
  | .hbm, ⟨51, _⟩ => ⟨S2x16384x1, .f32⟩
  | .hbm, ⟨52, _⟩ => ⟨S2x16384x1, .f32⟩
  | .hbm, ⟨53, _⟩ => ⟨S2x16384x1, .f32⟩
  | .hbm, ⟨54, _⟩ => ⟨S2x16384x1024, .f32⟩
  | .hbm, ⟨55, _⟩ => ⟨S2x16384x1024, .f32⟩
  | .hbm, ⟨56, _⟩ => ⟨S1x1x1024, .f32⟩
  | .hbm, ⟨57, _⟩ => ⟨S2x16384x1024, .f32⟩
  | .hbm, ⟨58, _⟩ => ⟨S2x16384x1024, .f32⟩
  | .hbm, ⟨59, _⟩ => ⟨S_, .f32⟩
  | .hbm, ⟨60, _⟩ => ⟨S2x1x1024, .f32⟩
  | .hbm, ⟨61, _⟩ => ⟨S2x1x1024, .f32⟩
  | .hbm, ⟨62, _⟩ => ⟨S2x16384x1024, .f32⟩
  | .hbm, ⟨63, _⟩ => ⟨S2x16384x1024, .f32⟩
  | .hbm, ⟨64, _⟩ => ⟨S2x16384x1024, .f32⟩
  | .hbm, ⟨65, _⟩ => ⟨S2x16384x1024, .f32⟩
  | .hbm, ⟨66, _⟩ => ⟨S1x1024x2816, .f32⟩
  | .hbm, ⟨67, _⟩ => ⟨S1024x2816, .f32⟩
  | .hbm, ⟨68, _⟩ => ⟨S2x16384x2816, .f32⟩
  | .hbm, ⟨69, _⟩ => ⟨S2x16384x2816, .f32⟩
  | .hbm, ⟨70, _⟩ => ⟨S2x16384x2816, .f32⟩
  | .hbm, ⟨71, _⟩ => ⟨S_, .f32⟩
  | .hbm, ⟨72, _⟩ => ⟨S2x16384x2816, .f32⟩
  | .hbm, ⟨73, _⟩ => ⟨S2x16384x2816, .f32⟩
  | .hbm, ⟨74, _⟩ => ⟨S_, .f32⟩
  | .hbm, ⟨75, _⟩ => ⟨S2x16384x2816, .f32⟩
  | .hbm, ⟨76, _⟩ => ⟨S2x16384x2816, .f32⟩
  | .hbm, ⟨77, _⟩ => ⟨S2x16384x2816, .f32⟩
  | .hbm, ⟨78, _⟩ => ⟨S1x1024x2816, .f32⟩
  | .hbm, ⟨79, _⟩ => ⟨S1024x2816, .f32⟩
  | .hbm, ⟨80, _⟩ => ⟨S2x16384x2816, .f32⟩
  | .hbm, ⟨81, _⟩ => ⟨S2x16384x2816, .f32⟩
  | .hbm, ⟨82, _⟩ => ⟨S1x2816x1024, .f32⟩
  | .hbm, ⟨83, _⟩ => ⟨S2816x1024, .f32⟩
  | .hbm, ⟨84, _⟩ => ⟨S2x16384x1024, .f32⟩
  | .hbm, ⟨85, _⟩ => ⟨S2x16384x1024, .f32⟩
  | .hbm, ⟨86, _⟩ => ⟨S2x16384x1024, .f32⟩
  | .hbm, ⟨87, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst : Ref sig .tc := ⟨.hbm, 44, rfl⟩
abbrev main_v35 : Ref sig .tc := ⟨.hbm, 45, rfl⟩
abbrev main_v36 : Ref sig .tc := ⟨.hbm, 46, rfl⟩
abbrev main_cst_0 : Ref sig .tc := ⟨.hbm, 47, rfl⟩
abbrev main_v37 : Ref sig .tc := ⟨.hbm, 48, rfl⟩
abbrev main_v38 : Ref sig .tc := ⟨.hbm, 49, rfl⟩
abbrev main_cst_1 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_2 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Proof.FfnRow.lean ====
/- The half-block arithmetic of the projection and feed-forward call, read at an index. -/
module

public import proofs.«01_k».proof.Proof.Gen.Kernel2Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen

/-- A row's root-mean-square scale: the reciprocal root of its mean square plus `1e-6`. -/
def rms (X : Fin 1024 → EReal) : EReal :=
  Ideal.rsqrt (Ideal.div (∑ k, X k * X k) (Ideal.ofBits .f32 0x44800000#32) + Ideal.ofBits .f32 0x358637BD#32)

/-- The gated activation `silu a * u`. -/
def glu (a u : EReal) : EReal := a * Ideal.div 1 (1 + Ideal.exp (-a)) * u

/-- The modulated norm of a row. -/
def zrow (X N2 SC SH : Fin 1024 → EReal) (k : Fin 1024) : EReal :=
  X k * rms X * N2 k * (1 + SC k) + SH k

/-- A row after the feed-forward layer. -/
def frow (X N2 SC SH G2 : Fin 1024 → EReal) (WG WU : Fin 1024 → Fin 2816 → EReal)
    (WD : Fin 2816 → Fin 1024 → EReal) (j : Fin 1024) : EReal :=
  X j + G2 j * ∑ h : Fin 2816, glu (∑ k, zrow X N2 SC SH k * WG k h) (∑ k, zrow X N2 SC SH k * WU k h) * WD h j

/-- A row of the result: the feed-forward row, normalised. -/
def orow (Y NF : Fin 1024 → EReal) (j : Fin 1024) : EReal := Y j * rms Y * NF j

/-- A product of a row block with a slice of an input weight. -/
def proj (z : FVec Ideal S512x1024 .bf16) (w : Vec Ideal S1x1024x256 .bf16) : FVec Ideal S512x256 .f32 :=
  matmul (F := Ideal) dot_S512x1024_S1024x256_S512x256_1_0_0_1_n_n none z
    (shapeCast S1024x256 w shapeCasts_S1x1024x256_S1024x256 : FVec Ideal S1024x256 .bf16) (constant S512x256 .f32 0x00000000#32)

/-- The gated activation of a slice. -/
def act (a u : FVec Ideal S512x256 .f32) : FVec Ideal S512x256 .bf16 :=
  truncf (F := Ideal) .bf16 (mulf (mulf a (divf (broadcast S512x256 (Scalar.ofBits .f32 0x3F800000#32))
    (addf (broadcast S512x256 (Scalar.ofBits .f32 0x3F800000#32))
      (exp (subf (broadcast S512x256 (Scalar.ofBits .f32 0x00000000#32)) a))))) u) bitsLt_bf16_f32

/-- One slice of the hidden axis added to the running sum. -/
def step (acc : FVec Ideal S512x1024 .f32) (z : FVec Ideal S512x1024 .bf16) (wg wu : Vec Ideal S1x1024x256 .bf16)
    (wd : Vec Ideal S1x256x1024 .bf16) : FVec Ideal S512x1024 .f32 :=
  addf acc (matmul (F := Ideal) dot_S512x256_S256x1024_S512x1024_1_0_0_1_n_n none (act (proj z wg) (proj z wu))
    (shapeCast S256x1024 wd shapeCasts_S1x256x1024_S256x1024 : FVec Ideal S256x1024 .bf16) (constant S512x1024 .f32 0x00000000#32))

theorem step_at (acc : FVec Ideal S512x1024 .f32) (z : FVec Ideal S512x1024 .bf16) (wg wu : FVec Ideal S1x1024x256 .bf16)
    (wd : FVec Ideal S1x256x1024 .bf16) (i : Fin 512) (j : Fin 1024) :
    step acc z wg wu wd (ix2 i j) = acc (ix2 i j)
      + ∑ h : Fin 256, glu (∑ k : Fin 1024, z (ix2 i k) * wg (ix3 0 k h)) (∑ k : Fin 1024, z (ix2 i k) * wu (ix3 0 k h))
        * wd (ix3 0 h j) := by
  pointwise [step, act, proj, glu]
  simp only [zero_sub, zero_add]

/-- The eleven slices of the hidden axis, accumulated from zero. -/
def acc (z : FVec Ideal S512x1024 .bf16) (x5 x6 : Vec Ideal S1x1024x2816 .bf16) (x7 : Vec Ideal S1x2816x1024 .bf16) :
    FVec Ideal S512x1024 .f32 :=
  step (step (step (step (step (step (step (step (step (step (step (broadcast S512x1024 (Scalar.ofBits (F := Ideal) .f32 0x00000000#32))
    z (View.ld x5 r0_7) (View.ld x6 r0_7) (View.ld x7 r0_8))
    z (View.ld x5 r0_9) (View.ld x6 r0_9) (View.ld x7 r0_10))
    z (View.ld x5 r0_11) (View.ld x6 r0_11) (View.ld x7 r0_12))
    z (View.ld x5 r0_13) (View.ld x6 r0_13) (View.ld x7 r0_14))
    z (View.ld x5 r0_15) (View.ld x6 r0_15) (View.ld x7 r0_16))
    z (View.ld x5 r0_17) (View.ld x6 r0_17) (View.ld x7 r0_18))
    z (View.ld x5 r0_19) (View.ld x6 r0_19) (View.ld x7 r0_20))
    z (View.ld x5 r0_21) (View.ld x6 r0_21) (View.ld x7 r0_22))
    z (View.ld x5 r0_23) (View.ld x6 r0_23) (View.ld x7 r0_24))
    z (View.ld x5 r0_25) (View.ld x6 r0_25) (View.ld x7 r0_26))
    z (View.ld x5 r0_27) (View.ld x6 r0_27) (View.ld x7 r0_28)

theorem acc_at (z : FVec Ideal S512x1024 .bf16) (x5 x6 : FVec Ideal S1x1024x2816 .bf16) (x7 : FVec Ideal S1x2816x1024 .bf16)
    (i : Fin 512) (j : Fin 1024) :
    acc z x5 x6 x7 (ix2 i j) = ∑ h : Fin 2816, glu (∑ k : Fin 1024, z (ix2 i k) * x5 (ix3 0 k h))
      (∑ k : Fin 1024, z (ix2 i k) * x6 (ix3 0 k h)) * x7 (ix3 0 h j) := by
  rw [Fin.sum_univ_tiles 11 256 rfl]
  simp only [Fin.sum_univ_castSucc (n := 10), Fin.sum_univ_castSucc (n := 9), Fin.sum_univ_castSucc (n := 8),
    Fin.sum_univ_castSucc (n := 7), Fin.sum_univ_castSucc (n := 6), Fin.sum_univ_castSucc (n := 5),
    Fin.sum_univ_castSucc (n := 4), Fin.sum_univ_castSucc (n := 3), Fin.sum_univ_castSucc (n := 2),
    Fin.sum_univ_castSucc (n := 1), Fin.sum_univ_castSucc (n := 0), Finset.univ_eq_empty, Finset.sum_empty]
  unfold acc
  simp only [step_at]
  pointwise
  rfl

/-- A row block's root-mean-square scale, as a column. -/
def rmsV (x : FVec Ideal S512x1024 .f32) : FVec Ideal S512x1 .f32 :=
  rsqrt (F := Ideal) (addf (divf (shapeCast S512x1 (multiReduction (F := Ideal) .add [1] S512 (mulf x x) 0x00000000#32 reduces_S512x1024_S512 (.inl rfl) rfl)
    shapeCasts_S512_S512x1) (broadcast S512x1 (Scalar.ofBits .f32 0x44800000#32))) (broadcast S512x1 (Scalar.ofBits .f32 0x358637BD#32)))

theorem rmsV_at (x : FVec Ideal S512x1024 .f32) (i : Fin 512) : rmsV x (ix2 i 0) = rms fun k => x (ix2 i k) := by
  pointwise [rmsV, rms]

/-- The modulated norm of a row block. -/
def znorm (x : FVec Ideal S512x1024 .f32) (n2 : Vec Ideal S1x1x1024 .f32) (sc sh : Vec Ideal S1x1x1x1024 .f32) :
    FVec Ideal S512x1024 .bf16 :=
  truncf (F := Ideal) .bf16 (addf (mulf (mulf (mulf x (broadcastTo S512x1024 (rmsV x) broadcasts_S512x1_S512x1024))
      (broadcastTo S512x1024 (shapeCast S1x1024 n2 shapeCasts_S1x1x1024_S1x1024) broadcasts_S1x1024_S512x1024))
    (broadcastTo S512x1024 (addf (broadcast S1x1024 (Scalar.ofBits .f32 0x3F800000#32))
      (shapeCast S1x1024 sc shapeCasts_S1x1x1x1024_S1x1024)) broadcasts_S1x1024_S512x1024))
    (broadcastTo S512x1024 (shapeCast S1x1024 sh shapeCasts_S1x1x1x1024_S1x1024) broadcasts_S1x1024_S512x1024)) bitsLt_bf16_f32

theorem znorm_at (x : FVec Ideal S512x1024 .f32) (n2 : FVec Ideal S1x1x1024 .f32) (sc sh : FVec Ideal S1x1x1x1024 .f32)
    (i : Fin 512) (j : Fin 1024) :
    znorm x n2 sc sh (ix2 i j) = zrow (fun k => x (ix2 i k)) (fun k => n2 (ix3 0 0 k)) (fun k => sc (ix4 0 0 0 k))
      (fun k => sh (ix4 0 0 0 k)) j := by
  pointwise [znorm, zrow, rmsV_at]

/-- The result of a half block from the stream after the mixer's projection. -/
def half (x : FVec Ideal S512x1024 .f32) (z : FVec Ideal S512x1024 .bf16) (x5 x6 : Vec Ideal S1x1024x2816 .bf16)
    (x7 : Vec Ideal S1x2816x1024 .bf16) (g2 : Vec Ideal S1x1x1x1024 .f32) : FVec Ideal S512x1024 .f32 :=
  addf (F := Ideal) x (mulf (broadcastTo S512x1024 (shapeCast S1x1024 g2 shapeCasts_S1x1x1x1024_S1x1024) broadcasts_S1x1024_S512x1024)
    (acc z x5 x6 x7))

/-- The final norm of a half block. -/
def fin (y : FVec Ideal S512x1024 .f32) (nf : Vec Ideal S1x1024 .f32) : FVec Ideal S1x512x1024 .f32 :=
  shapeCast S1x512x1024 (mulf (F := Ideal) (mulf y (broadcastTo S512x1024 (rmsV y) broadcasts_S512x1_S512x1024))
    (broadcastTo S512x1024 (shapeCast S1x1024 nf shapeCasts_S1x1024_S1x1024) broadcasts_S1x1024_S512x1024)) shapeCasts_S512x1024_S1x512x1024

theorem fin_at (y : FVec Ideal S512x1024 .f32) (nf : FVec Ideal S1x1024 .f32) (i : Fin 512) (j : Fin 1024) :
    fin y nf (ix3 0 i j) = orow (fun k => y (ix2 i k)) (fun k => nf (ix2 0 k)) j := by
  pointwise [fin, orow, rmsV_at]

theorem half_at (x : FVec Ideal S512x1024 .f32) (n2 : FVec Ideal S1x1x1024 .f32) (sc sh g2 : FVec Ideal S1x1x1x1024 .f32)
    (x5 x6 : FVec Ideal S1x1024x2816 .bf16) (x7 : FVec Ideal S1x2816x1024 .bf16) (i : Fin 512) (j : Fin 1024) :
    half x (znorm x n2 sc sh) x5 x6 x7 g2 (ix2 i j)
      = frow (fun k => x (ix2 i k)) (fun k => n2 (ix3 0 0 k)) (fun k => sc (ix4 0 0 0 k)) (fun k => sh (ix4 0 0 0 k))
          (fun k => g2 (ix4 0 0 0 k)) (fun k h => x5 (ix3 0 k h)) (fun k h => x6 (ix3 0 k h)) (fun h k => x7 (ix3 0 h k)) j := by
  pointwise [half, frow, acc_at, znorm_at]

section
variable (x0 : Vec Ideal S1x1024x1024 .f32) (x1 : Vec Ideal S1x1024x1024 .bf16) (x2 : Vec Ideal S1x1x6x1024 .f32)
    (x3 : Vec Ideal S1x1x1024 .f32) (x4 : Vec Ideal S1x1024x1024 .bf16) (x5 x6 : Vec Ideal S1x1024x2816 .bf16)
    (x7 : Vec Ideal S1x2816x1024 .bf16) (x8 : Vec Ideal S1x1024 .f32)
theorem z0 : k0_pay51 (F := Ideal) x0 x1 x2 x3 x4 x5 x6 x7 x8 = znorm (k0_pay47 x0 x1 x2 x3 x4 x5 x6 x7 x8) (View.ld x3 r0_4) (View.ld x2 r0_5) (View.ld x2 r0_6) := by
  rfl
theorem z1 : k0_pay52 (F := Ideal) x0 x1 x2 x3 x4 x5 x6 x7 x8 = znorm (k0_pay48 x0 x1 x2 x3 x4 x5 x6 x7 x8) (View.ld x3 r0_4) (View.ld x2 r0_5) (View.ld x2 r0_6) := by
  rfl
/-- The two stored pieces, in the words above: the first half of the block. -/
theorem piece0 :
    k0_pay29 (F := Ideal) (k0_pay27 (k0_pay47 x0 x1 x2 x3 x4 x5 x6 x7 x8) (k0_pay51 x0 x1 x2 x3 x4 x5 x6 x7 x8) (k0_pay53 x0 x1 x2 x3 x4 x5 x6 x7 x8) (k0_pay54 x0 x1 x2 x3 x4 x5 x6 x7 x8) (View.ld x7 r0_26) (View.ld x5 r0_27) (View.ld x6 r0_27) (View.ld x7 r0_28) (View.ld x2 r0_29)) (k0_pay28 (k0_pay47 x0 x1 x2 x3 x4 x5 x6 x7 x8) (k0_pay51 x0 x1 x2 x3 x4 x5 x6 x7 x8) (k0_pay53 x0 x1 x2 x3 x4 x5 x6 x7 x8) (k0_pay54 x0 x1 x2 x3 x4 x5 x6 x7 x8) (View.ld x7 r0_26) (View.ld x5 r0_27) (View.ld x6 r0_27) (View.ld x7 r0_28) (View.ld x2 r0_29)) (Scalar.ofBits .f32 0x358637BD#32) (View.ld x8 r0_30)
      = fin (half (k0_pay47 x0 x1 x2 x3 x4 x5 x6 x7 x8) (znorm (k0_pay47 x0 x1 x2 x3 x4 x5 x6 x7 x8) (View.ld x3 r0_4) (View.ld x2 r0_5) (View.ld x2 r0_6)) x5 x6 x7 (View.ld x2 r0_29)) (View.ld x8 r0_30) := by
  rfl

/-- The second half of the block. -/
theorem piece1 :
    k0_pay1 (F := Ideal) (k0_pay45 (k0_pay48 x0 x1 x2 x3 x4 x5 x6 x7 x8) (k0_pay52 x0 x1 x2 x3 x4 x5 x6 x7 x8) (k0_pay55 x0 x1 x2 x3 x4 x5 x6 x7 x8) (k0_pay56 x0 x1 x2 x3 x4 x5 x6 x7 x8) (View.ld x7 r0_26) (View.ld x5 r0_27) (View.ld x6 r0_27) (View.ld x7 r0_28) (View.ld x2 r0_29)) (k0_pay46 (k0_pay48 x0 x1 x2 x3 x4 x5 x6 x7 x8) (k0_pay52 x0 x1 x2 x3 x4 x5 x6 x7 x8) (k0_pay55 x0 x1 x2 x3 x4 x5 x6 x7 x8) (k0_pay56 x0 x1 x2 x3 x4 x5 x6 x7 x8) (View.ld x7 r0_26) (View.ld x5 r0_27) (View.ld x6 r0_27) (View.ld x7 r0_28) (View.ld x2 r0_29)) (Scalar.ofBits .f32 0x358637BD#32) (View.ld x8 r0_30)
      = fin (half (k0_pay48 x0 x1 x2 x3 x4 x5 x6 x7 x8) (znorm (k0_pay48 x0 x1 x2 x3 x4 x5 x6 x7 x8) (View.ld x3 r0_4) (View.ld x2 r0_5) (View.ld x2 r0_6)) x5 x6 x7 (View.ld x2 r0_29)) (View.ld x8 r0_30) := by
  rfl

end
end Cert.Kernel2Ideal.Ffn

end
-- ==== Proof.FfnRef.lean ====
/- The reference of the projection and feed-forward call, read row by row. -/
module

public import proofs.«01_k».proof.Proof.FfnRow
public import proofs.«01_k».proof.Proof.Gen.Reference2Ideal.Run

@[expose] public section

set_option maxRecDepth 16384

noncomputable section

open Idealize.ShloMosaic Idealize.ShloMosaic.TcCoe Idealize.SL.Sem

namespace Cert.Reference2Ideal.Ffn

open Cert.Reference2Ideal Cert.Reference2Ideal.Gen
open Cert.Kernel2Ideal.Ffn (rms glu zrow frow orow)

variable (A0 : FVec Ideal S2x16384x1024 .f32) (A1 : FVec Ideal S2x16384x1024 .bf16) (A2 : FVec Ideal S4x8x6x1024 .f32)
  (A3 : FVec Ideal S4x1024 .f32) (A4 : FVec Ideal S4x1024x1024 .f32) (A5 A6 : FVec Ideal S4x1024x2816 .f32)
  (A7 : FVec Ideal S4x2816x1024 .f32) (A8 : FVec Ideal S1024 .f32)

/-- The stream after the mixer's projection. -/
def xmid : FVec Ideal S2x16384x1024 .f32 :=
  (addf A0 (mulf (broadcastInDim S2x16384x1024 ![0, 1, 2] bcast_S2x1x1024_S2x16384x1024_0_1_2 (broadcastInDim S2x1x1024 ![0, 2] bcast_S2x1024_S2x1x1024_0_2 (shapeCast _ (extractStridedSlice S1x2x1x1024 ![3, 0, 2, 0] A2 slices_S4x8x6x1024_S1x2x1x1024_3_0_2_0) shapeCasts_S1x2x1x1024_S2x1024))) (Host.dotGeneral dot_S2x16384x1024_S1024x1024_S2x16384x1024_2_0_01_1_n_n none ((concatenate S2x16384x1024 2 [⟨S2x16384x256, ((extractStridedSlice S2x16384x256 ![0, 0, 0] (extf .f32 A1 bitsLt_bf16_f32) slices_S2x16384x1024_S2x16384x256_0_0_0) : (⟨S2x16384x256, .f32⟩ : BufTy).Contents (Elt Ideal))⟩, ⟨S2x16384x512, ((shapeCast _ (transpose S2x16384x2x4x64 [0, 1, 3, 2, 4] (shapeCast _ (extractStridedSlice S2x16384x512 ![0, 0, 256] (extf .f32 A1 bitsLt_bf16_f32) slices_S2x16384x1024_S2x16384x512_0_0_256) shapeCasts_S2x16384x512_S2x16384x4x2x64) transposes_S2x16384x4x2x64_S2x16384x2x4x64_0_1_3_2_4) shapeCasts_S2x16384x2x4x64_S2x16384x512) : (⟨S2x16384x512, .f32⟩ : BufTy).Contents (Elt Ideal))⟩, ⟨S2x16384x256, ((extractStridedSlice S2x16384x256 ![0, 0, 768] (extf .f32 A1 bitsLt_bf16_f32) slices_S2x16384x1024_S2x16384x256_0_0_768) : (⟨S2x16384x256, .f32⟩ : BufTy).Contents (Elt Ideal))⟩] concatenates_S2x16384x256_S2x16384x512_S2x16384x256_S2x16384x1024_d2 : FVec Ideal S2x16384x1024 .f32)) (shapeCast _ (extractStridedSlice S1x1024x1024 ![3, 0, 0] A4 slices_S4x1024x1024_S1x1024x1024_3_0_0) shapeCasts_S1x1024x1024_S1024x1024))))

/-- Its modulated norm, from the stream. -/
def znorm (XM : FVec Ideal S2x16384x1024 .f32) : FVec Ideal S2x16384x1024 .f32 :=
  (addf (mulf (mulf (mulf XM (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf XM XM) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast _ (extractStridedSlice S1x1024 ![3, 0] A3 slices_S4x1024_S1x1024_3_0) shapeCasts_S1x1024_S1024)))) (broadcastInDim S2x16384x1024 ![0, 1, 2] bcast_S2x1x1024_S2x16384x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S1x2x1x1024 ![3, 0, 4, 0] A2 slices_S4x8x6x1024_S1x2x1x1024_3_0_4_0) shapeCasts_S1x2x1x1024_S2x1024))))) (broadcastInDim S2x16384x1024 ![0, 1, 2] bcast_S2x1x1024_S2x16384x1024_0_1_2 (broadcastInDim S2x1x1024 ![0, 2] bcast_S2x1024_S2x1x1024_0_2 (shapeCast _ (extractStridedSlice S1x2x1x1024 ![3, 0, 3, 0] A2 slices_S4x8x6x1024_S1x2x1x1024_3_0_3_0) shapeCasts_S1x2x1x1024_S2x1024))))

/-- The stream after the feed-forward layer, from the stream and the modulated norm. -/
def ffn (XM Z : FVec Ideal S2x16384x1024 .f32) : FVec Ideal S2x16384x1024 .f32 :=
  (addf XM (mulf (broadcastInDim S2x16384x1024 ![0, 1, 2] bcast_S2x1x1024_S2x16384x1024_0_1_2 (broadcastInDim S2x1x1024 ![0, 2] bcast_S2x1024_S2x1x1024_0_2 (shapeCast _ (extractStridedSlice S1x2x1x1024 ![3, 0, 5, 0] A2 slices_S4x8x6x1024_S1x2x1x1024_3_0_5_0) shapeCasts_S1x2x1x1024_S2x1024))) (Host.dotGeneral dot_S2x16384x2816_S2816x1024_S2x16384x1024_2_0_01_1_n_n none (mulf (mulf (Host.dotGeneral dot_S2x16384x1024_S1024x2816_S2x16384x2816_2_0_01_1_n_n none Z (shapeCast _ (extractStridedSlice S1x1024x2816 ![3, 0, 0] A5 slices_S4x1024x2816_S1x1024x2816_3_0_0) shapeCasts_S1x1024x2816_S1024x2816)) (Host.divf (broadcastInDim S2x16384x2816 ![] bcast_S_S2x16384x2816 (constant S_ .f32 0x3F800000#32)) (addf (broadcastInDim S2x16384x2816 ![] bcast_S_S2x16384x2816 (constant S_ .f32 0x3F800000#32)) (Host.exp (Host.negf (Host.dotGeneral dot_S2x16384x1024_S1024x2816_S2x16384x2816_2_0_01_1_n_n none Z (shapeCast _ (extractStridedSlice S1x1024x2816 ![3, 0, 0] A5 slices_S4x1024x2816_S1x1024x2816_3_0_0) shapeCasts_S1x1024x2816_S1024x2816))))))) (Host.dotGeneral dot_S2x16384x1024_S1024x2816_S2x16384x2816_2_0_01_1_n_n none Z (shapeCast _ (extractStridedSlice S1x1024x2816 ![3, 0, 0] A6 slices_S4x1024x2816_S1x1024x2816_3_0_0) shapeCasts_S1x1024x2816_S1024x2816))) (shapeCast _ (extractStridedSlice S1x2816x1024 ![3, 0, 0] A7 slices_S4x2816x1024_S1x2816x1024_3_0_0) shapeCasts_S1x2816x1024_S2816x1024))))

/-- The final norm. -/
def fin (Y : FVec Ideal S2x16384x1024 .f32) : FVec Ideal S2x16384x1024 .f32 :=
  mulf (mulf Y (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf Y Y) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 A8))

/-- The whole reference. -/
def REF : FVec Ideal S2x16384x1024 .f32 :=
  fin A8 (ffn A2 A5 A6 A7 (xmid A0 A1 A2 A4) (znorm A2 A3 (xmid A0 A1 A2 A4)))

/-- The reference's run ends at this term. -/
theorem res_eq (m : (ℓ : Loc nD τ sig) → Buf (Elt Ideal) ℓ) (c : Dev nD) :
    Cert.Reference2Ideal.Value.res_main_v79 (F := Ideal) m c
      = REF (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  rfl

theorem znorm_at (XM : FVec Ideal S2x16384x1024 .f32) (b : Fin 2) (s : Fin 16384) (j : Fin 1024) :
    znorm A2 A3 XM (ix3 b s j) = zrow (fun k => XM (ix3 b s k)) (fun k => A3 (ix2 3 k)) (fun k => A2 (ix4 3 ⟨b.val, by omega⟩ 4 k))
      (fun k => A2 (ix4 3 ⟨b.val, by omega⟩ 3 k)) j := by
  pointwise! [znorm, zrow, rms, zero_add]

theorem ffn_at (XM : FVec Ideal S2x16384x1024 .f32) (b : Fin 2) (s : Fin 16384) (j : Fin 1024) :
    ffn A2 A5 A6 A7 XM (znorm A2 A3 XM) (ix3 b s j)
      = frow (fun k => XM (ix3 b s k)) (fun k => A3 (ix2 3 k)) (fun k => A2 (ix4 3 ⟨b.val, by omega⟩ 4 k))
          (fun k => A2 (ix4 3 ⟨b.val, by omega⟩ 3 k)) (fun k => A2 (ix4 3 ⟨b.val, by omega⟩ 5 k))
          (fun k h => A5 (ix3 3 k h)) (fun k h => A6 (ix3 3 k h)) (fun h k => A7 (ix3 3 h k)) j := by
  pointwise! [ffn, frow, glu, znorm_at]

theorem fin_at (Y : FVec Ideal S2x16384x1024 .f32) (b : Fin 2) (s : Fin 16384) (j : Fin 1024) :
    fin A8 Y (ix3 b s j) = orow (fun k => Y (ix3 b s k)) (fun k => A8 (ix1 k)) j := by
  pointwise! [fin, orow, rms, zero_add]

/-- Attention columns are stored group by group: column `4*64*v + 64*g + d` of the projection's rows is column
    `2*64*g + 64*v + d` of the mixer's. -/
def colsTo (q : Fin 512) : Fin 512 := ⟨(q.val / 64 % 4) * 128 + q.val / 256 * 64 + q.val % 64, by omega⟩

/-- The inverse of `colsTo`. -/
def colsInv (q : Fin 512) : Fin 512 := ⟨(q.val / 64 % 2) * 256 + q.val / 128 * 64 + q.val % 64, by omega⟩

/-- The two as a permutation of the columns. -/
def cols : Fin 512 ≃ Fin 512 where
  toFun := colsTo
  invFun := colsInv
  left_inv := (by decide +kernel : ∀ q, colsInv (colsTo q) = q)
  right_inv := (by decide +kernel : ∀ q, colsTo (colsInv q) = q)

theorem xmid_at (b : Fin 2) (s : Fin 16384) (j : Fin 1024) :
    xmid A0 A1 A2 A4 (ix3 b s j) = A0 (ix3 b s j) + A2 (ix4 3 ⟨b.val, by omega⟩ 2 j) *
      (∑ k : Fin 256, A1 (ix3 b s ⟨k.val, by omega⟩) * A4 (ix3 3 ⟨k.val, by omega⟩ j)
        + (∑ k : Fin 512, A1 (ix3 b s ⟨256 + (cols k).val, by omega⟩) * A4 (ix3 3 ⟨256 + k.val, by omega⟩ j)
          + ∑ k : Fin 256, A1 (ix3 b s ⟨768 + k.val, by omega⟩) * A4 (ix3 3 ⟨768 + k.val, by omega⟩ j))) := by
  pointwise [xmid]
  refine congrArg₂ (· + ·) rfl (congrArg₂ (· * ·) rfl ?_)
  rw [Fin.sum_univ_two_halves 256 768 rfl, Fin.sum_univ_two_halves (N := 768) 512 256 rfl]
  refine congrArg₂ (· + ·) (Finset.sum_congr rfl fun k _ => ?_)
    (congrArg₂ (· + ·) (Finset.sum_congr rfl fun k _ => ?_) (Finset.sum_congr rfl fun k _ => ?_))
  · rw [dif_pos (show k.val < 256 from k.isLt)]
  · rw [dif_neg (by dsimp only; omega), dif_pos (by dsimp only; omega)]
    refine congrArg₂ (· * ·) (congrArg A1 ?_) rfl
    simp only [Nat.add_sub_cancel_left]
    rfl
  · rw [dif_neg (by dsimp only; omega), dif_neg (by dsimp only; omega)]
    refine congrArg₂ (· * ·) (congrArg A1 ?_) (congrArg A4 ?_)
    · refine (ix3_inj ..).2 ⟨rfl, rfl, ?_⟩
      simp only [Fin.mk.injEq]; omega
    · refine (ix3_inj ..).2 ⟨rfl, ?_, rfl⟩
      simp only [Fin.mk.injEq]; omega

/-- The whole reference, read row by row. -/
theorem REF_at (b : Fin 2) (s : Fin 16384) (j : Fin 1024) :
    REF A0 A1 A2 A3 A4 A5 A6 A7 A8 (ix3 b s j)
      = orow (frow (fun k => xmid A0 A1 A2 A4 (ix3 b s k)) (fun k => A3 (ix2 3 k)) (fun k => A2 (ix4 3 ⟨b.val, by omega⟩ 4 k))
          (fun k => A2 (ix4 3 ⟨b.val, by omega⟩ 3 k)) (fun k => A2 (ix4 3 ⟨b.val, by omega⟩ 5 k))
          (fun k h => A5 (ix3 3 k h)) (fun k h => A6 (ix3 3 k h)) (fun h k => A7 (ix3 3 h k))) (fun k => A8 (ix1 k)) j := by
  unfold REF
  rw [fin_at]
  simp only [ffn_at]

end Cert.Reference2Ideal.Ffn

end
-- ==== Proof.FfnValue.lean ====
/- The projection and feed-forward call's result array is its reference's term. -/
module

public import proofs.«01_k».proof.Proof.FfnRow
public import proofs.«01_k».proof.Proof.FfnRef
public import proofs.«01_k».proof.Proof.Gen.Kernel2Ideal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

section
variable (x0 : FVec Ideal S1x1024x1024 .f32) (x1 : FVec Ideal S1x1024x1024 .bf16) (x2 : FVec Ideal S1x1x6x1024 .f32)
    (x3 : FVec Ideal S1x1x1024 .f32) (x4 : FVec Ideal S1x1024x1024 .bf16) (x5 x6 : FVec Ideal S1x1024x2816 .bf16)
    (x7 : FVec Ideal S1x2816x1024 .bf16) (x8 : FVec Ideal S1x1024 .f32)

/-- A row of the block after the mixer's projection. -/
def xrow (r : Fin 1024) (j : Fin 1024) : EReal :=
  x0 (ix3 0 r j) + x2 (ix4 0 0 2 j) * ∑ k : Fin 1024, x1 (ix3 0 r k) * x4 (ix3 0 k j)

/-- What the body leaves at a row and column of the block. -/
def blockOut (r j : Fin 1024) : EReal :=
  orow (frow (xrow x0 x1 x2 x4 r) (fun k => x3 (ix3 0 0 k)) (fun k => x2 (ix4 0 0 4 k)) (fun k => x2 (ix4 0 0 3 k))
    (fun k => x2 (ix4 0 0 5 k)) (fun k h => x5 (ix3 0 k h)) (fun k h => x6 (ix3 0 k h)) (fun h k => x7 (ix3 0 h k)))
    (fun k => x8 (ix2 0 k)) j

theorem xmid0 (i : Fin 512) (j : Fin 1024) :
    k0_pay47 (F := Ideal) x0 x1 x2 x3 x4 x5 x6 x7 x8 (ix2 i j) = xrow x0 x1 x2 x4 ⟨i.val, by omega⟩ j := by
  pointwise! [k0_pay47, k0_pay2, xrow, zero_add]

theorem xmid1 (i : Fin 512) (j : Fin 1024) :
    k0_pay48 (F := Ideal) x0 x1 x2 x3 x4 x5 x6 x7 x8 (ix2 i j) = xrow x0 x1 x2 x4 ⟨512 + i.val, by omega⟩ j := by
  pointwise! [k0_pay48, k0_pay3, xrow, zero_add]

end

section
variable (x0 : Vec Ideal S1x1024x1024 .f32) (x1 : Vec Ideal S1x1024x1024 .bf16) (x2 : Vec Ideal S1x1x6x1024 .f32)
    (x3 : Vec Ideal S1x1x1024 .f32) (x4 : Vec Ideal S1x1024x1024 .bf16) (x5 x6 : Vec Ideal S1x1024x2816 .bf16)
    (x7 : Vec Ideal S1x2816x1024 .bf16) (x8 : Vec Ideal S1x1024 .f32)

/-- Either stored piece, read at an index. -/
theorem piece_at (X : FVec Ideal S512x1024 .f32) (r : Fin 1024) (i : Fin 512) (j : Fin 1024)
    (hX : ∀ k, X (ix2 i k) = xrow x0 x1 x2 x4 r k) :
    fin (half X (znorm X (View.ld x3 r0_4) (View.ld x2 r0_5) (View.ld x2 r0_6)) x5 x6 x7 (View.ld x2 r0_29)) (View.ld x8 r0_30) (ix3 0 i j)
      = blockOut x0 x1 x2 x3 x4 x5 x6 x7 x8 r j := by
  rw [fin_at]
  simp only [half_at, hX]
  pointwise
  rfl

theorem out_at (r j : Fin 1024) :
    out0_9 (F := Ideal) x0 x1 x2 x3 x4 x5 x6 x7 x8 (ix3 0 r j) = blockOut x0 x1 x2 x3 x4 x5 x6 x7 x8 r j := by
  unfold out0_9
  rw [piece0, piece1]
  canon_tiles q h
  all_goals idx_vars q
  all_goals obtain rfl : q0 = 0 := Subsingleton.elim _ _
  · obtain rfl : q2 = j := Fin.ext h2.symm
    refine piece_at x0 x1 x2 x3 x4 x5 x6 x7 x8 _ r q1 q2 fun k => (xmid1 x0 x1 x2 x3 x4 x5 x6 x7 x8 q1 k).trans ?_
    exact congrArg (xrow x0 x1 x2 x4 · k) (Fin.ext h1.symm)
  · obtain rfl : q2 = j := Fin.ext h2.symm
    refine piece_at x0 x1 x2 x3 x4 x5 x6 x7 x8 _ r q1 q2 fun k => (xmid0 x0 x1 x2 x3 x4 x5 x6 x7 x8 q1 k).trans ?_
    exact congrArg (xrow x0 x1 x2 x4 · k) (Fin.ext h1.symm)
end

variable (m : (ℓ : Loc nD τ sig) → Buf (Elt Ideal) ℓ)

theorem idx : ∀ t : Fin cfg0.N, win0_0.index t = ![t.val / 16, t.val % 16, 0] ∧ win0_1.index t = ![t.val / 16, t.val % 16, 0]
    ∧ win0_2.index t = ![3, t.val / 16, 0, 0] ∧ win0_3.index t = ![3, 0, 0] ∧ win0_4.index t = ![3, 0, 0] ∧ win0_5.index t = ![3, 0, 0]
    ∧ win0_6.index t = ![3, 0, 0] ∧ win0_7.index t = ![3, 0, 0] ∧ win0_8.index t = ![0, 0] ∧ win0_9.index t = ![t.val / 16, t.val % 16, 0]
    ∧ t.val / 16 < 2 :=
  (by decide +kernel : ∀ t : Fin grid0.N, _)

theorem row_congr {X X' N2 N2' SC SC' SH SH' G2 G2' NF NF' : Fin 1024 → EReal} {WG WG' WU WU' : Fin 1024 → Fin 2816 → EReal}
    {WD WD' : Fin 2816 → Fin 1024 → EReal} (hX : ∀ k, X k = X' k) (hN : ∀ k, N2 k = N2' k) (hC : ∀ k, SC k = SC' k) (hH : ∀ k, SH k = SH' k)
    (hG : ∀ k, G2 k = G2' k) (hF : ∀ k, NF k = NF' k) (hWG : ∀ k h, WG k h = WG' k h) (hWU : ∀ k h, WU k h = WU' k h)
    (hWD : ∀ h k, WD h k = WD' h k) (j : Fin 1024) :
    orow (frow X N2 SC SH G2 WG WU WD) NF j = orow (frow X' N2' SC' SH' G2' WG' WU' WD') NF' j := by
  obtain rfl := funext hX; obtain rfl := funext hN; obtain rfl := funext hC; obtain rfl := funext hH; obtain rfl := funext hG
  obtain rfl := funext hF; obtain rfl := funext fun k => funext (hWG k); obtain rfl := funext fun k => funext (hWU k)
  obtain rfl := funext fun k => funext (hWD k)
  rfl

section
variable (c : Dev nD) (t : Fin cfg0.N)
theorem b0 (r k : Fin 1024) (b : Fin 2) (s : Fin 16384) (hb : b.val = t.val / 16) (hs : s.val = t.val % 16 * 1024 + r.val) :
    iblk m c 0 t (ix3 0 r k) = m ((c : Thread nD τ).loc main_arg0) (ix3 b s k) := by
  blk_ext [iblk, V, idx t]
theorem b1 (r k : Fin 1024) (b : Fin 2) (s : Fin 16384) (hb : b.val = t.val / 16) (hs : s.val = t.val % 16 * 1024 + r.val) :
    iblk m c 1 t (ix3 0 r k) = m ((c : Thread nD τ).loc main_arg1) (ix3 b s k) := by
  blk_ext [iblk, V, idx t]
theorem b2 (r : Fin 6) (k : Fin 1024) (b : Fin 8) (hb : b.val = t.val / 16) :
    iblk m c 2 t (ix4 0 0 r k) = m ((c : Thread nD τ).loc main_arg2) (ix4 3 b r k) := by
  blk_ext [iblk, V, idx t]
theorem b4 (k j : Fin 1024) : iblk m c 4 t (ix3 0 k j) = V m c main_v7 (ix3 3 k j) := by
  blk_ext [iblk, idx t]
theorem b3 (k : Fin 1024) : iblk m c 3 t (ix3 0 0 k) = V m c main_v11 (ix3 3 0 k) := by
  blk_ext [iblk, idx t]
theorem b8 (k : Fin 1024) : iblk m c 8 t (ix2 0 k) = V m c main_v12 (ix2 0 k) := by
  blk_ext [iblk, idx t]
theorem b5 (k : Fin 1024) (h : Fin 2816) : iblk m c 5 t (ix3 0 k h) = V m c main_v8 (ix3 3 k h) := by
  blk_ext [iblk, idx t]
theorem b6 (k : Fin 1024) (h : Fin 2816) : iblk m c 6 t (ix3 0 k h) = V m c main_v9 (ix3 3 k h) := by
  blk_ext [iblk, idx t]
theorem b7 (k : Fin 2816) (h : Fin 1024) : iblk m c 7 t (ix3 0 k h) = V m c main_v10 (ix3 3 k h) := by
  blk_ext [iblk, idx t]
end

section
variable (c : Dev nD)
theorem v8 : (V m c main_v8 : FVec Ideal S4x1024x2816 .bf16) = (m ((c : Thread nD τ).loc main_arg5) : FVec Ideal S4x1024x2816 .f32) := by
  entry_read; rfl
theorem v9 : (V m c main_v9 : FVec Ideal S4x1024x2816 .bf16) = (m ((c : Thread nD τ).loc main_arg6) : FVec Ideal S4x1024x2816 .f32) := by
  entry_read; rfl
theorem v10 : (V m c main_v10 : FVec Ideal S4x2816x1024 .bf16) = (m ((c : Thread nD τ).loc main_arg7) : FVec Ideal S4x2816x1024 .f32) := by
  entry_read; rfl
theorem v11 (k : Fin 1024) : (V m c main_v11 : FVec Ideal S4x1x1024 .f32) (ix3 3 0 k) = (m ((c : Thread nD τ).loc main_arg3) : FVec Ideal S4x1024 .f32) (ix2 3 k) := by
  entry_read; pointwise
theorem v12 (k : Fin 1024) : (V m c main_v12 : FVec Ideal S1x1024 .f32) (ix2 0 k) = (m ((c : Thread nD τ).loc main_arg8) : FVec Ideal S1024 .f32) (ix1 k) := by
  entry_read; pointwise
/-- The projection's rows put together again from their three groups. -/
def joinRows : (main_v5 : Ref sig .tc).ty.Contents (Elt Ideal) → (main_v4 : Ref sig .tc).ty.Contents (Elt Ideal) → (main_v6 : Ref sig .tc).ty.Contents (Elt Ideal) → (main_v7 : Ref sig .tc).ty.Contents (Elt Ideal) :=
  (fun u0 u1 u2 => (concatenate S4x1024x1024 1 [⟨S4x256x1024, (u0 : (⟨S4x256x1024, .bf16⟩ : BufTy).Contents (Elt Ideal))⟩, ⟨S4x512x1024, (u1 : (⟨S4x512x1024, .bf16⟩ : BufTy).Contents (Elt Ideal))⟩, ⟨S4x256x1024, (u2 : (⟨S4x256x1024, .bf16⟩ : BufTy).Contents (Elt Ideal))⟩] concatenates_S4x256x1024_S4x512x1024_S4x256x1024_S4x1024x1024_d1 : (⟨S4x1024x1024, .bf16⟩ : BufTy).Contents (Elt Ideal)))

/-- The host operations before the launch, the one that joins the row groups by name. -/
abbrev hostLine : List (HloOp τ sig (Elt Ideal)) :=
  [ StableHlo.unary main_arg4 main_v0 ((truncf (F := Ideal) .bf16 · bitsLt_bf16_f32) : (⟨S4x1024x1024, .f32⟩ : BufTy).Contents (Elt Ideal) → (⟨S4x1024x1024, .bf16⟩ : BufTy).Contents (Elt Ideal)),
    StableHlo.unary main_v0 main_v1 ((extractStridedSlice S4x512x1024 ![0, 256, 0] · slices_S4x1024x1024_S4x512x1024_0_256_0) : (⟨S4x1024x1024, .bf16⟩ : BufTy).Contents (Elt Ideal) → (⟨S4x512x1024, .bf16⟩ : BufTy).Contents (Elt Ideal)),
    StableHlo.reshape main_v1 main_v2 (rfl : (.bf16 : EltTy) = .bf16) shapeCasts_S4x512x1024_S4x2x4x64x1024,
    StableHlo.unary main_v2 main_v3 ((transpose S4x4x2x64x1024 [0, 2, 1, 3, 4] · transposes_S4x2x4x64x1024_S4x4x2x64x1024_0_2_1_3_4) : (⟨S4x2x4x64x1024, .bf16⟩ : BufTy).Contents (Elt Ideal) → (⟨S4x4x2x64x1024, .bf16⟩ : BufTy).Contents (Elt Ideal)),
    StableHlo.reshape main_v3 main_v4 (rfl : (.bf16 : EltTy) = .bf16) shapeCasts_S4x4x2x64x1024_S4x512x1024,
    StableHlo.unary main_v0 main_v5 ((extractStridedSlice S4x256x1024 ![0, 0, 0] · slices_S4x1024x1024_S4x256x1024_0_0_0) : (⟨S4x1024x1024, .bf16⟩ : BufTy).Contents (Elt Ideal) → (⟨S4x256x1024, .bf16⟩ : BufTy).Contents (Elt Ideal)),
    StableHlo.unary main_v0 main_v6 ((extractStridedSlice S4x256x1024 ![0, 768, 0] · slices_S4x1024x1024_S4x256x1024_0_768_0) : (⟨S4x1024x1024, .bf16⟩ : BufTy).Contents (Elt Ideal) → (⟨S4x256x1024, .bf16⟩ : BufTy).Contents (Elt Ideal)),
    StableHlo.nary ![main_v5, main_v4, main_v6] main_v7 (fun u => joinRows (u 0) (u 1) (u 2)),
    StableHlo.unary main_arg5 main_v8 ((truncf (F := Ideal) .bf16 · bitsLt_bf16_f32) : (⟨S4x1024x2816, .f32⟩ : BufTy).Contents (Elt Ideal) → (⟨S4x1024x2816, .bf16⟩ : BufTy).Contents (Elt Ideal)),
    StableHlo.unary main_arg6 main_v9 ((truncf (F := Ideal) .bf16 · bitsLt_bf16_f32) : (⟨S4x1024x2816, .f32⟩ : BufTy).Contents (Elt Ideal) → (⟨S4x1024x2816, .bf16⟩ : BufTy).Contents (Elt Ideal)),
    StableHlo.unary main_arg7 main_v10 ((truncf (F := Ideal) .bf16 · bitsLt_bf16_f32) : (⟨S4x2816x1024, .f32⟩ : BufTy).Contents (Elt Ideal) → (⟨S4x2816x1024, .bf16⟩ : BufTy).Contents (Elt Ideal)),
    StableHlo.reshape main_arg3 main_v11 (rfl : (.f32 : EltTy) = .f32) shapeCasts_S4x1024_S4x1x1024,
    StableHlo.reshape main_arg8 main_v12 (rfl : (.f32 : EltTy) = .f32) shapeCasts_S1024_S1x1024 ]

/-- The projection the kernel is given, as a term over the argument. -/
theorem v7_eq : V m c main_v7 = joinRows
      (extractStridedSlice S4x256x1024 ![0, 0, 0] (truncf .bf16 (m ((c : Thread nD τ).loc main_arg4) : FVec Ideal S4x1024x1024 .f32) bitsLt_bf16_f32 : FVec Ideal S4x1024x1024 .bf16) slices_S4x1024x1024_S4x256x1024_0_0_0)
      (shapeCast S4x512x1024 (transpose S4x4x2x64x1024 [0, 2, 1, 3, 4] (shapeCast S4x2x4x64x1024 (extractStridedSlice S4x512x1024 ![0, 256, 0] (truncf .bf16 (m ((c : Thread nD τ).loc main_arg4) : FVec Ideal S4x1024x1024 .f32) bitsLt_bf16_f32 : FVec Ideal S4x1024x1024 .bf16) slices_S4x1024x1024_S4x512x1024_0_256_0) shapeCasts_S4x512x1024_S4x2x4x64x1024) transposes_S4x2x4x64x1024_S4x4x2x64x1024_0_2_1_3_4) shapeCasts_S4x4x2x64x1024_S4x512x1024)
      (extractStridedSlice S4x256x1024 ![0, 768, 0] (truncf .bf16 (m ((c : Thread nD τ).loc main_arg4) : FVec Ideal S4x1024x1024 .f32) bitsLt_bf16_f32 : FVec Ideal S4x1024x1024 .bf16) slices_S4x1024x1024_S4x256x1024_0_768_0) := by
  show StableHlo.after hostLine (fun b => m (c, b)) (Proc.devRef .tc main_v7) = _
  after_results_simp
  try dsimp only [Matrix.cons_val]
  rfl

theorem v7a (k : Fin 256) (j : Fin 1024) : (V m c main_v7 : FVec Ideal S4x1024x1024 .bf16) (ix3 3 ⟨k.val, by omega⟩ j) = (m ((c : Thread nD τ).loc main_arg4) : FVec Ideal S4x1024x1024 .f32) (ix3 3 ⟨k.val, by omega⟩ j) := by
  rw [v7_eq]
  pointwise [joinRows]
theorem v7c (k : Fin 256) (j : Fin 1024) : (V m c main_v7 : FVec Ideal S4x1024x1024 .bf16) (ix3 3 ⟨768 + k.val, by omega⟩ j) = (m ((c : Thread nD τ).loc main_arg4) : FVec Ideal S4x1024x1024 .f32) (ix3 3 ⟨768 + k.val, by omega⟩ j) := by
  rw [v7_eq]
  pointwise [joinRows]
  rw [dif_neg (by omega), dif_neg (by omega)]
  exact congrArg _ ((ix3_inj ..).2 ⟨rfl, by simp only [Fin.mk.injEq]; omega, rfl⟩)
theorem v7b (k : Fin 512) (j : Fin 1024) : (V m c main_v7 : FVec Ideal S4x1024x1024 .bf16) (ix3 3 ⟨256 + k.val, by omega⟩ j)
    = (m ((c : Thread nD τ).loc main_arg4) : FVec Ideal S4x1024x1024 .f32) (ix3 3 ⟨256 + (Cert.Reference2Ideal.Ffn.colsInv k).val, by omega⟩ j) := by
  rw [v7_eq]
  pointwise [joinRows]
  rfl
theorem xrow_eq (t : Fin cfg0.N) (r j : Fin 1024) (b : Fin 2) (s : Fin 16384) (hb : b.val = t.val / 16) (hs : s.val = t.val % 16 * 1024 + r.val) :
    xrow (iblk m c 0 t) (iblk m c 1 t) (iblk m c 2 t) (iblk m c 4 t) r j
      = Cert.Reference2Ideal.Ffn.xmid (m ((c : Thread nD τ).loc main_arg0)) (m ((c : Thread nD τ).loc main_arg1))
          (m ((c : Thread nD τ).loc main_arg2)) (m ((c : Thread nD τ).loc main_arg4)) (ix3 b s j) := by
  rw [Cert.Reference2Ideal.Ffn.xmid_at]
  unfold xrow
  rw [Fin.sum_univ_two_halves 256 768 rfl, Fin.sum_univ_two_halves (N := 768) 512 256 rfl]
  refine congrArg₂ (· + ·) (b0 m c t r j b s hb hs) (congrArg₂ (· * ·) (b2 m c t 2 j ⟨b.val, by omega⟩ hb) ?_)
  refine congrArg₂ (· + ·) (Finset.sum_congr rfl fun k _ => ?_)
    (congrArg₂ (· + ·) ?_ (Finset.sum_congr rfl fun k _ => ?_))
  · exact congrArg₂ (· * ·) (b1 m c t r _ b s hb hs) ((b4 m c t _ j).trans (v7a m c k j))
  · refine Fintype.sum_equiv Cert.Reference2Ideal.Ffn.cols.symm _ _ fun k => ?_
    refine congrArg₂ (· * ·) ((b1 m c t r _ b s hb hs).trans ?_) ((b4 m c t _ j).trans ?_)
    · refine congrArg _ ((ix3_inj ..).2 ⟨rfl, rfl, ?_⟩)
      simp only [Fin.mk.injEq, Equiv.apply_symm_apply]
    · exact v7b m c k j
  · refine congrArg₂ (· * ·) ((b1 m c t r _ b s hb hs).trans ?_) ((b4 m c t _ j).trans ?_)
    · exact congrArg _ ((ix3_inj ..).2 ⟨rfl, rfl, by simp only [Fin.mk.injEq]; omega⟩)
    · refine Eq.trans (congrArg _ ((ix3_inj ..).2 ⟨rfl, ?_, rfl⟩)) (v7c m c k j)
      simp only [Fin.mk.injEq]; omega

theorem final : (dats m 0 c).arrAt 9 (cfgs 0).N
    = Cert.Reference2Ideal.Ffn.REF (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) := by
  refine (dats m 0 c).arrAt_eq_of_covers 9 _ (by decide +kernel) fun t hf y => ?_
  blk_simp
  rw [after0_9]
  idx_vars y
  obtain rfl : y0 = 0 := Subsingleton.elim _ _
  refine (out_at _ _ _ _ _ _ _ _ _ y1 y2).trans ?_
  have hb : t.val / 16 < 2 := (idx t).2.2.2.2.2.2.2.2.2.2
  have he : ((cfg0.win 9).blk t).view.emb (ix3 0 y1 y2)
      = ix3 (⟨t.val / 16, hb⟩ : Fin 2) (⟨t.val % 16 * 1024 + y1.val, by omega⟩ : Fin 16384) y2 := by blk_ext [idx t]
  refine Eq.trans ?_ (congrArg _ he.symm)
  refine Eq.trans ?_ (Cert.Reference2Ideal.Ffn.REF_at _ _ _ _ _ _ _ _ _ _ _ _).symm
  unfold blockOut
  refine row_congr (fun k => ?_) (fun k => ?_) (fun k => ?_) (fun k => ?_) (fun k => ?_) (fun k => ?_) (fun k h => ?_) (fun k h => ?_)
    (fun h k => ?_) y2
  · exact xrow_eq m c t y1 k _ _ rfl rfl
  · exact (b3 m c t k).trans (v11 m c k)
  · exact b2 m c t 4 k ⟨t.val / 16, by omega⟩ rfl
  · exact b2 m c t 3 k ⟨t.val / 16, by omega⟩ rfl
  · exact b2 m c t 5 k ⟨t.val / 16, by omega⟩ rfl
  · exact (b8 m c t k).trans (v12 m c k)
  · exact (b5 m c t k h).trans (congrFun (v8 m c) _)
  · exact (b6 m c t k h).trans (congrFun (v9 m c) _)
  · exact (b7 m c t h k).trans (congrFun (v10 m c) _)
end

end Cert.Kernel2Ideal.Ffn

end
-- ==== Proof.FfnClaim.lean ====
/- The value claim about the output projection and feed-forward call, put together: the kernel's run leaves the
   array `FfnValue` computes, the reference's run the term `FfnRef` reads, and the two are one array. -/
module

public import proofs.«01_k».proof.Defs
public import proofs.«01_k».proof.Proof.FfnValue
public import proofs.«01_k».proof.Proof.FfnRef
public import proofs.«01_k».proof.Proof.Gen.Kernel2Ideal.Value
public import proofs.«01_k».proof.Proof.Gen.Reference2Ideal.Run
public import Idealize.ShloMosaic.Lib.Claim

@[expose] public section

set_option maxRecDepth 16384

noncomputable section

namespace Cert.FfnClaim

open Idealize.ShloMosaic Idealize.ShloMosaic.TcCoe Idealize.SL.Sem

/-- From memories that agree on the arguments, the call and its reference both run and end with the same result. -/
theorem algebraic : Cert.algebraic_Kernel2Ideal_Reference2Ideal := by
  pair_intro
  · run_from Cert.Kernel2Ideal.Value.run_blocks m g
  · run_from Cert.Reference2Ideal.Value.run m' g'
    rw [Cert.Reference2Ideal.Ffn.res_eq m' c]
    obtain ⟨h0, h1, h2, h3, h4, h5, h6, h7, h8⟩ := hagree c
    rw [h0, h1, h2, h3, h4, h5, h6, h7, h8]
    exact (Cert.Kernel2Ideal.Ffn.final m c).symm

end Cert.FfnClaim

end
-- ==== Proof.FfnRef3.lean ====
/- The reference of the projection and feed-forward call of layer 0, read row by row. -/
module

public import proofs.«01_k».proof.Proof.FfnRef
public import proofs.«01_k».proof.Proof.Gen.Reference3Ideal.Run

@[expose] public section

set_option maxRecDepth 16384

noncomputable section

open Idealize.ShloMosaic Idealize.ShloMosaic.TcCoe Idealize.SL.Sem

namespace Cert.Reference3Ideal.Ffn

open Cert.Reference3Ideal Cert.Reference3Ideal.Gen
open Cert.Kernel2Ideal.Ffn (rms glu zrow frow)
open Cert.Reference2Ideal.Ffn (cols colsTo colsInv)

variable (A0 : FVec Ideal S2x16384x1024 .f32) (A1 : FVec Ideal S2x16384x1024 .bf16) (A2 : FVec Ideal S4x8x6x1024 .f32)
  (A3 : FVec Ideal S4x1024 .f32) (A4 : FVec Ideal S4x1024x1024 .f32) (A5 A6 : FVec Ideal S4x1024x2816 .f32)
  (A7 : FVec Ideal S4x2816x1024 .f32)

/-- The stream after the mixer's projection. -/
def xmid : FVec Ideal S2x16384x1024 .f32 :=
  (addf A0 (mulf (broadcastInDim S2x16384x1024 ![0, 1, 2] bcast_S2x1x1024_S2x16384x1024_0_1_2 (broadcastInDim S2x1x1024 ![0, 2] bcast_S2x1024_S2x1x1024_0_2 (shapeCast _ (extractStridedSlice S1x2x1x1024 ![0, 0, 2, 0] A2 slices_S4x8x6x1024_S1x2x1x1024_0_0_2_0) shapeCasts_S1x2x1x1024_S2x1024))) (Host.dotGeneral dot_S2x16384x1024_S1024x1024_S2x16384x1024_2_0_01_1_n_n none ((concatenate S2x16384x1024 2 [⟨S2x16384x256, ((extractStridedSlice S2x16384x256 ![0, 0, 0] (extf .f32 A1 bitsLt_bf16_f32) slices_S2x16384x1024_S2x16384x256_0_0_0) : (⟨S2x16384x256, .f32⟩ : BufTy).Contents (Elt Ideal))⟩, ⟨S2x16384x512, ((shapeCast _ (transpose S2x16384x2x4x64 [0, 1, 3, 2, 4] (shapeCast _ (extractStridedSlice S2x16384x512 ![0, 0, 256] (extf .f32 A1 bitsLt_bf16_f32) slices_S2x16384x1024_S2x16384x512_0_0_256) shapeCasts_S2x16384x512_S2x16384x4x2x64) transposes_S2x16384x4x2x64_S2x16384x2x4x64_0_1_3_2_4) shapeCasts_S2x16384x2x4x64_S2x16384x512) : (⟨S2x16384x512, .f32⟩ : BufTy).Contents (Elt Ideal))⟩, ⟨S2x16384x256, ((extractStridedSlice S2x16384x256 ![0, 0, 768] (extf .f32 A1 bitsLt_bf16_f32) slices_S2x16384x1024_S2x16384x256_0_0_768) : (⟨S2x16384x256, .f32⟩ : BufTy).Contents (Elt Ideal))⟩] concatenates_S2x16384x256_S2x16384x512_S2x16384x256_S2x16384x1024_d2 : FVec Ideal S2x16384x1024 .f32)) (shapeCast _ (extractStridedSlice S1x1024x1024 ![0, 0, 0] A4 slices_S4x1024x1024_S1x1024x1024_0_0_0) shapeCasts_S1x1024x1024_S1024x1024))))

/-- Its modulated norm, from the stream. -/
def znorm (XM : FVec Ideal S2x16384x1024 .f32) : FVec Ideal S2x16384x1024 .f32 :=
  (addf (mulf (mulf (mulf XM (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf XM XM) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast _ (extractStridedSlice S1x1024 ![0, 0] A3 slices_S4x1024_S1x1024_0_0) shapeCasts_S1x1024_S1024)))) (broadcastInDim S2x16384x1024 ![0, 1, 2] bcast_S2x1x1024_S2x16384x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S1x2x1x1024 ![0, 0, 4, 0] A2 slices_S4x8x6x1024_S1x2x1x1024_0_0_4_0) shapeCasts_S1x2x1x1024_S2x1024))))) (broadcastInDim S2x16384x1024 ![0, 1, 2] bcast_S2x1x1024_S2x16384x1024_0_1_2 (broadcastInDim S2x1x1024 ![0, 2] bcast_S2x1024_S2x1x1024_0_2 (shapeCast _ (extractStridedSlice S1x2x1x1024 ![0, 0, 3, 0] A2 slices_S4x8x6x1024_S1x2x1x1024_0_0_3_0) shapeCasts_S1x2x1x1024_S2x1024))))

/-- The stream after the feed-forward layer, from the stream and the modulated norm. -/
def ffn (XM Z : FVec Ideal S2x16384x1024 .f32) : FVec Ideal S2x16384x1024 .f32 :=
  (addf XM (mulf (broadcastInDim S2x16384x1024 ![0, 1, 2] bcast_S2x1x1024_S2x16384x1024_0_1_2 (broadcastInDim S2x1x1024 ![0, 2] bcast_S2x1024_S2x1x1024_0_2 (shapeCast _ (extractStridedSlice S1x2x1x1024 ![0, 0, 5, 0] A2 slices_S4x8x6x1024_S1x2x1x1024_0_0_5_0) shapeCasts_S1x2x1x1024_S2x1024))) (Host.dotGeneral dot_S2x16384x2816_S2816x1024_S2x16384x1024_2_0_01_1_n_n none (mulf (mulf (Host.dotGeneral dot_S2x16384x1024_S1024x2816_S2x16384x2816_2_0_01_1_n_n none Z (shapeCast _ (extractStridedSlice S1x1024x2816 ![0, 0, 0] A5 slices_S4x1024x2816_S1x1024x2816_0_0_0) shapeCasts_S1x1024x2816_S1024x2816)) (Host.divf (broadcastInDim S2x16384x2816 ![] bcast_S_S2x16384x2816 (constant S_ .f32 0x3F800000#32)) (addf (broadcastInDim S2x16384x2816 ![] bcast_S_S2x16384x2816 (constant S_ .f32 0x3F800000#32)) (Host.exp (Host.negf (Host.dotGeneral dot_S2x16384x1024_S1024x2816_S2x16384x2816_2_0_01_1_n_n none Z (shapeCast _ (extractStridedSlice S1x1024x2816 ![0, 0, 0] A5 slices_S4x1024x2816_S1x1024x2816_0_0_0) shapeCasts_S1x1024x2816_S1024x2816))))))) (Host.dotGeneral dot_S2x16384x1024_S1024x2816_S2x16384x2816_2_0_01_1_n_n none Z (shapeCast _ (extractStridedSlice S1x1024x2816 ![0, 0, 0] A6 slices_S4x1024x2816_S1x1024x2816_0_0_0) shapeCasts_S1x1024x2816_S1024x2816))) (shapeCast _ (extractStridedSlice S1x2816x1024 ![0, 0, 0] A7 slices_S4x2816x1024_S1x2816x1024_0_0_0) shapeCasts_S1x2816x1024_S2816x1024))))

/-- The whole reference. -/
def REF : FVec Ideal S2x16384x1024 .f32 :=
  ffn A2 A5 A6 A7 (xmid A0 A1 A2 A4) (znorm A2 A3 (xmid A0 A1 A2 A4))

/-- The reference's run ends at this term. -/
theorem res_eq (m : (ℓ : Loc nD τ sig) → Buf (Elt Ideal) ℓ) (c : Dev nD) :
    Cert.Reference3Ideal.Value.res_main_v66 (F := Ideal) m c
      = REF (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rfl

theorem znorm_at (XM : FVec Ideal S2x16384x1024 .f32) (b : Fin 2) (s : Fin 16384) (j : Fin 1024) :
    znorm A2 A3 XM (ix3 b s j) = zrow (fun k => XM (ix3 b s k)) (fun k => A3 (ix2 0 k)) (fun k => A2 (ix4 0 ⟨b.val, by omega⟩ 4 k))
      (fun k => A2 (ix4 0 ⟨b.val, by omega⟩ 3 k)) j := by
  pointwise! [znorm, zrow, rms, zero_add]

theorem ffn_at (XM : FVec Ideal S2x16384x1024 .f32) (b : Fin 2) (s : Fin 16384) (j : Fin 1024) :
    ffn A2 A5 A6 A7 XM (znorm A2 A3 XM) (ix3 b s j)
      = frow (fun k => XM (ix3 b s k)) (fun k => A3 (ix2 0 k)) (fun k => A2 (ix4 0 ⟨b.val, by omega⟩ 4 k))
          (fun k => A2 (ix4 0 ⟨b.val, by omega⟩ 3 k)) (fun k => A2 (ix4 0 ⟨b.val, by omega⟩ 5 k))
          (fun k h => A5 (ix3 0 k h)) (fun k h => A6 (ix3 0 k h)) (fun h k => A7 (ix3 0 h k)) j := by
  pointwise! [ffn, frow, glu, znorm_at]

theorem xmid_at (b : Fin 2) (s : Fin 16384) (j : Fin 1024) :
    xmid A0 A1 A2 A4 (ix3 b s j) = A0 (ix3 b s j) + A2 (ix4 0 ⟨b.val, by omega⟩ 2 j) *
      (∑ k : Fin 256, A1 (ix3 b s ⟨k.val, by omega⟩) * A4 (ix3 0 ⟨k.val, by omega⟩ j)
        + (∑ k : Fin 512, A1 (ix3 b s ⟨256 + (cols k).val, by omega⟩) * A4 (ix3 0 ⟨256 + k.val, by omega⟩ j)
          + ∑ k : Fin 256, A1 (ix3 b s ⟨768 + k.val, by omega⟩) * A4 (ix3 0 ⟨768 + k.val, by omega⟩ j))) := by
  pointwise [xmid]
  refine congrArg₂ (· + ·) rfl (congrArg₂ (· * ·) rfl ?_)
  rw [Fin.sum_univ_two_halves 256 768 rfl, Fin.sum_univ_two_halves (N := 768) 512 256 rfl]
  refine congrArg₂ (· + ·) (Finset.sum_congr rfl fun k _ => ?_)
    (congrArg₂ (· + ·) (Finset.sum_congr rfl fun k _ => ?_) (Finset.sum_congr rfl fun k _ => ?_))
  · rw [dif_pos (show k.val < 256 from k.isLt)]
  · rw [dif_neg (by dsimp only; omega), dif_pos (by dsimp only; omega)]
    refine congrArg₂ (· * ·) (congrArg A1 ?_) rfl
    simp only [Nat.add_sub_cancel_left]
    rfl
  · rw [dif_neg (by dsimp only; omega), dif_neg (by dsimp only; omega)]
    refine congrArg₂ (· * ·) (congrArg A1 ?_) (congrArg A4 ?_)
    · refine (ix3_inj ..).2 ⟨rfl, rfl, ?_⟩
      simp only [Fin.mk.injEq]; omega
    · refine (ix3_inj ..).2 ⟨rfl, ?_, rfl⟩
      simp only [Fin.mk.injEq]; omega

/-- The whole reference, read row by row. -/
theorem REF_at (b : Fin 2) (s : Fin 16384) (j : Fin 1024) :
    REF A0 A1 A2 A3 A4 A5 A6 A7 (ix3 b s j)
      = frow (fun k => xmid A0 A1 A2 A4 (ix3 b s k)) (fun k => A3 (ix2 0 k)) (fun k => A2 (ix4 0 ⟨b.val, by omega⟩ 4 k))
          (fun k => A2 (ix4 0 ⟨b.val, by omega⟩ 3 k)) (fun k => A2 (ix4 0 ⟨b.val, by omega⟩ 5 k))
          (fun k h => A5 (ix3 0 k h)) (fun k h => A6 (ix3 0 k h)) (fun h k => A7 (ix3 0 h k)) j := by
  unfold REF
  rw [ffn_at]

end Cert.Reference3Ideal.Ffn

end
-- ==== Proof.FfnValue3.lean ====
/- The projection and feed-forward call of layer 0: its result array is its reference's term. -/
module

public import proofs.«01_k».proof.Proof.FfnRow
public import proofs.«01_k».proof.Proof.FfnRef3
public import proofs.«01_k».proof.Proof.Gen.Kernel3Ideal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen
open Cert.Kernel2Ideal.Ffn (frow half znorm half_at)

section
variable (x0 : FVec Ideal S1x1024x1024 .f32) (x1 : FVec Ideal S1x1024x1024 .bf16) (x2 : FVec Ideal S1x1x6x1024 .f32)
    (x3 : FVec Ideal S1x1x1024 .f32) (x4 : FVec Ideal S1x1024x1024 .bf16) (x5 x6 : FVec Ideal S1x1024x2816 .bf16)
    (x7 : FVec Ideal S1x2816x1024 .bf16) (x8 : FVec Ideal S1x1024 .f32)

/-- A row of the block after the mixer's projection. -/
def xrow (r : Fin 1024) (j : Fin 1024) : EReal :=
  x0 (ix3 0 r j) + x2 (ix4 0 0 2 j) * ∑ k : Fin 1024, x1 (ix3 0 r k) * x4 (ix3 0 k j)

/-- What the body leaves at a row and column of the block. -/
def blockOut (r j : Fin 1024) : EReal :=
  frow (xrow x0 x1 x2 x4 r) (fun k => x3 (ix3 0 0 k)) (fun k => x2 (ix4 0 0 4 k)) (fun k => x2 (ix4 0 0 3 k))
    (fun k => x2 (ix4 0 0 5 k)) (fun k h => x5 (ix3 0 k h)) (fun k h => x6 (ix3 0 k h)) (fun h k => x7 (ix3 0 h k)) j

/-- The stream after the mixer's projection, first half of the block. -/
theorem xmid0 (i : Fin 512) (j : Fin 1024) :
    k0_pay44 (F := Ideal) x0 x1 x2 x3 x4 x5 x6 x7 x8 (ix2 i j) = xrow x0 x1 x2 x4 ⟨i.val, by omega⟩ j := by
  pointwise! [k0_pay44, k0_pay2, xrow, zero_add]

/-- The stream after the mixer's projection, second half of the block. -/
theorem xmid1 (i : Fin 512) (j : Fin 1024) :
    k0_pay45 (F := Ideal) x0 x1 x2 x3 x4 x5 x6 x7 x8 (ix2 i j) = xrow x0 x1 x2 x4 ⟨512 + i.val, by omega⟩ j := by
  pointwise! [k0_pay45, k0_pay3, xrow, zero_add]

end

section
variable (x0 : Vec Ideal S1x1024x1024 .f32) (x1 : Vec Ideal S1x1024x1024 .bf16) (x2 : Vec Ideal S1x1x6x1024 .f32)
    (x3 : Vec Ideal S1x1x1024 .f32) (x4 : Vec Ideal S1x1024x1024 .bf16) (x5 x6 : Vec Ideal S1x1024x2816 .bf16)
    (x7 : Vec Ideal S1x2816x1024 .bf16) (x8 : Vec Ideal S1x1024 .f32)

/-- A half block as it is stored. -/
def store (y : FVec Ideal S512x1024 .f32) : FVec Ideal S1x512x1024 .f32 :=
  shapeCast S1x512x1024 y shapeCasts_S512x1024_S1x512x1024

/-- A stored half block, read at an index. -/
theorem store_at (y : FVec Ideal S512x1024 .f32) (i : Fin 512) (j : Fin 1024) : store y (ix3 0 i j) = y (ix2 i j) := by
  pointwise [store]

/-- The first stored piece. -/
theorem piece0 :
    k0_pay27 (k0_pay44 x0 x1 x2 x3 x4 x5 x6 x7 x8) (k0_pay48 x0 x1 x2 x3 x4 x5 x6 x7 x8) (k0_pay25 (k0_pay48 x0 x1 x2 x3 x4 x5 x6 x7 x8) (k0_pay24 (k0_pay48 x0 x1 x2 x3 x4 x5 x6 x7 x8) (k0_pay21 (k0_pay48 x0 x1 x2 x3 x4 x5 x6 x7 x8) (k0_pay17 (k0_pay48 x0 x1 x2 x3 x4 x5 x6 x7 x8) (k0_pay11 (k0_pay48 x0 x1 x2 x3 x4 x5 x6 x7 x8) (k0_pay7 (F := Ideal)) (k0_pay8 (k0_pay44 x0 x1 x2 x3 x4 x5 x6 x7 x8) (k0_pay46 x0 x1 x2 x3 x4 x5 x6 x7 x8) (k0_pay47 x0 x1 x2 x3 x4 x5 x6 x7 x8) (View.ld x3 r0_4) (View.ld x2 r0_5) (View.ld x2 r0_6) (View.ld x5 r0_7)) (k0_pay9 (k0_pay44 x0 x1 x2 x3 x4 x5 x6 x7 x8) (k0_pay46 x0 x1 x2 x3 x4 x5 x6 x7 x8) (k0_pay47 x0 x1 x2 x3 x4 x5 x6 x7 x8) (View.ld x3 r0_4) (View.ld x2 r0_5) (View.ld x2 r0_6) (View.ld x6 r0_7)) (k0_pay10 (k0_pay44 x0 x1 x2 x3 x4 x5 x6 x7 x8) (k0_pay46 x0 x1 x2 x3 x4 x5 x6 x7 x8) (k0_pay47 x0 x1 x2 x3 x4 x5 x6 x7 x8) (View.ld x3 r0_4) (View.ld x2 r0_5) (View.ld x2 r0_6) (View.ld x5 r0_7)) (View.ld x7 r0_8) (View.ld x5 r0_9) (View.ld x6 r0_9) (View.ld x7 r0_10)) (k0_pay15 (k0_pay48 x0 x1 x2 x3 x4 x5 x6 x7 x8) (View.ld x5 r0_11) (View.ld x6 r0_11)) (k0_pay16 (View.ld x7 r0_12)) (View.ld x5 r0_13) (View.ld x6 r0_13) (View.ld x7 r0_14)) (k0_pay18 (k0_pay48 x0 x1 x2 x3 x4 x5 x6 x7 x8) (View.ld x5 r0_15)) (k0_pay19 (k0_pay48 x0 x1 x2 x3 x4 x5 x6 x7 x8) (View.ld x6 r0_15)) (k0_pay20 (k0_pay48 x0 x1 x2 x3 x4 x5 x6 x7 x8) (View.ld x5 r0_15)) (Scalar.ofBits (F := Ideal) .f32 0x3F800000#32) (View.ld x7 r0_16) (View.ld x5 r0_17) (View.ld x6 r0_17) (View.ld x7 r0_18)) (k0_pay22 (k0_pay48 x0 x1 x2 x3 x4 x5 x6 x7 x8) (View.ld x5 r0_19)) (k0_pay23 (View.ld x6 r0_19)) (View.ld x7 r0_20) (View.ld x5 r0_21) (View.ld x6 r0_21) (View.ld x7 r0_22)) (View.ld x5 r0_23) (View.ld x6 r0_23) (View.ld x7 r0_24)) (k0_pay26 (k0_pay48 x0 x1 x2 x3 x4 x5 x6 x7 x8) (View.ld x5 r0_25) (View.ld x6 r0_25)) (View.ld x7 r0_26) (View.ld x5 r0_27) (View.ld x6 r0_27) (View.ld x7 r0_28) (View.ld x2 r0_29)
      = store (half (k0_pay44 x0 x1 x2 x3 x4 x5 x6 x7 x8) (znorm (k0_pay44 x0 x1 x2 x3 x4 x5 x6 x7 x8) (View.ld x3 r0_4) (View.ld x2 r0_5) (View.ld x2 r0_6)) x5 x6 x7 (View.ld x2 r0_29)) := by
  rfl

/-- The second stored piece. -/
theorem piece1 :
    k0_pay1 (k0_pay45 x0 x1 x2 x3 x4 x5 x6 x7 x8) (k0_pay49 x0 x1 x2 x3 x4 x5 x6 x7 x8) (k0_pay42 (k0_pay49 x0 x1 x2 x3 x4 x5 x6 x7 x8) (k0_pay38 (k0_pay49 x0 x1 x2 x3 x4 x5 x6 x7 x8) (k0_pay36 (k0_pay49 x0 x1 x2 x3 x4 x5 x6 x7 x8) (k0_pay34 (k0_pay49 x0 x1 x2 x3 x4 x5 x6 x7 x8) (k0_pay30 (k0_pay49 x0 x1 x2 x3 x4 x5 x6 x7 x8) (k0_pay28 (k0_pay49 x0 x1 x2 x3 x4 x5 x6 x7 x8) (k0_pay14 (F := Ideal)) (View.ld x5 r0_7) (View.ld x6 r0_7) (View.ld x7 r0_8)) (k0_pay29 (k0_pay49 x0 x1 x2 x3 x4 x5 x6 x7 x8) (View.ld x5 r0_9) (View.ld x6 r0_9)) (View.ld x7 r0_10) (View.ld x5 r0_11) (View.ld x6 r0_11) (View.ld x7 r0_12)) (k0_pay31 (k0_pay49 x0 x1 x2 x3 x4 x5 x6 x7 x8) (View.ld x5 r0_13)) (k0_pay32 (k0_pay49 x0 x1 x2 x3 x4 x5 x6 x7 x8) (View.ld x6 r0_13)) (k0_pay33 (F := Ideal)) (View.ld x7 r0_14) (View.ld x5 r0_15) (View.ld x6 r0_15) (View.ld x7 r0_16)) (k0_pay35 (View.ld x5 r0_17)) (constant (F := Ideal) S512x256 .f32 0x00000000#32) (View.ld x6 r0_17) (View.ld x7 r0_18)) (k0_pay37 (k0_pay49 x0 x1 x2 x3 x4 x5 x6 x7 x8) (View.ld x5 r0_19) (View.ld x6 r0_19)) (View.ld x7 r0_20) (View.ld x5 r0_21) (View.ld x6 r0_21) (View.ld x7 r0_22)) (k0_pay39 (k0_pay49 x0 x1 x2 x3 x4 x5 x6 x7 x8) (View.ld x5 r0_23)) (k0_pay40 (k0_pay49 x0 x1 x2 x3 x4 x5 x6 x7 x8) (View.ld x6 r0_23)) (k0_pay41 (k0_pay49 x0 x1 x2 x3 x4 x5 x6 x7 x8) (View.ld x5 r0_23)) (View.ld x7 r0_24) (View.ld x5 r0_25) (View.ld x6 r0_25) (View.ld x7 r0_26)) (k0_pay43 (k0_pay49 x0 x1 x2 x3 x4 x5 x6 x7 x8) (View.ld x5 r0_27)) (View.ld x6 r0_27) (View.ld x7 r0_28) (View.ld x2 r0_29)
      = store (half (k0_pay45 x0 x1 x2 x3 x4 x5 x6 x7 x8) (znorm (k0_pay45 x0 x1 x2 x3 x4 x5 x6 x7 x8) (View.ld x3 r0_4) (View.ld x2 r0_5) (View.ld x2 r0_6)) x5 x6 x7 (View.ld x2 r0_29)) := by
  rfl

/-- Either stored piece, read at an index. -/
theorem piece_at (X : FVec Ideal S512x1024 .f32) (r : Fin 1024) (i : Fin 512) (j : Fin 1024)
    (hX : ∀ k, X (ix2 i k) = xrow x0 x1 x2 x4 r k) :
    store (half X (znorm X (View.ld x3 r0_4) (View.ld x2 r0_5) (View.ld x2 r0_6)) x5 x6 x7 (View.ld x2 r0_29)) (ix3 0 i j)
      = blockOut x0 x1 x2 x3 x4 x5 x6 x7 r j := by
  rw [store_at, half_at]
  simp only [hX]
  pointwise
  rfl

/-- What the body leaves at a row and column of the block. -/
theorem out_at (r j : Fin 1024) :
    out0_9 (F := Ideal) x0 x1 x2 x3 x4 x5 x6 x7 x8 (ix3 0 r j) = blockOut x0 x1 x2 x3 x4 x5 x6 x7 r j := by
  unfold out0_9
  rw [piece0, piece1]
  canon_tiles q h
  all_goals idx_vars q
  all_goals obtain rfl : q0 = 0 := Subsingleton.elim _ _
  · obtain rfl : q2 = j := Fin.ext h2.symm
    refine piece_at x0 x1 x2 x3 x4 x5 x6 x7 _ r q1 q2 fun k => (xmid1 x0 x1 x2 x3 x4 x5 x6 x7 x8 q1 k).trans ?_
    exact congrArg (xrow x0 x1 x2 x4 · k) (Fin.ext h1.symm)
  · obtain rfl : q2 = j := Fin.ext h2.symm
    refine piece_at x0 x1 x2 x3 x4 x5 x6 x7 _ r q1 q2 fun k => (xmid0 x0 x1 x2 x3 x4 x5 x6 x7 x8 q1 k).trans ?_
    exact congrArg (xrow x0 x1 x2 x4 · k) (Fin.ext h1.symm)
end

variable (m : (ℓ : Loc nD τ sig) → Buf (Elt Ideal) ℓ)

theorem idx : ∀ t : Fin cfg0.N, win0_0.index t = ![t.val / 16, t.val % 16, 0] ∧ win0_1.index t = ![t.val / 16, t.val % 16, 0]
    ∧ win0_2.index t = ![0, t.val / 16, 0, 0] ∧ win0_3.index t = ![0, 0, 0] ∧ win0_4.index t = ![0, 0, 0] ∧ win0_5.index t = ![0, 0, 0]
    ∧ win0_6.index t = ![0, 0, 0] ∧ win0_7.index t = ![0, 0, 0] ∧ win0_8.index t = ![0, 0] ∧ win0_9.index t = ![t.val / 16, t.val % 16, 0]
    ∧ t.val / 16 < 2 :=
  (by decide +kernel : ∀ t : Fin grid0.N, _)

/-- Rows with equal ingredients are equal. -/
theorem row_congr {X X' N2 N2' SC SC' SH SH' G2 G2' : Fin 1024 → EReal} {WG WG' WU WU' : Fin 1024 → Fin 2816 → EReal}
    {WD WD' : Fin 2816 → Fin 1024 → EReal} (hX : ∀ k, X k = X' k) (hN : ∀ k, N2 k = N2' k) (hC : ∀ k, SC k = SC' k) (hH : ∀ k, SH k = SH' k)
    (hG : ∀ k, G2 k = G2' k) (hWG : ∀ k h, WG k h = WG' k h) (hWU : ∀ k h, WU k h = WU' k h)
    (hWD : ∀ h k, WD h k = WD' h k) (j : Fin 1024) :
    frow X N2 SC SH G2 WG WU WD j = frow X' N2' SC' SH' G2' WG' WU' WD' j := by
  obtain rfl := funext hX; obtain rfl := funext hN; obtain rfl := funext hC; obtain rfl := funext hH; obtain rfl := funext hG
  obtain rfl := funext fun k => funext (hWG k); obtain rfl := funext fun k => funext (hWU k)
  obtain rfl := funext fun k => funext (hWD k)
  rfl

section
variable (c : Dev nD) (t : Fin cfg0.N)
theorem b0 (r k : Fin 1024) (b : Fin 2) (s : Fin 16384) (hb : b.val = t.val / 16) (hs : s.val = t.val % 16 * 1024 + r.val) :
    iblk m c 0 t (ix3 0 r k) = m ((c : Thread nD τ).loc main_arg0) (ix3 b s k) := by
  blk_ext [iblk, V, idx t]
theorem b1 (r k : Fin 1024) (b : Fin 2) (s : Fin 16384) (hb : b.val = t.val / 16) (hs : s.val = t.val % 16 * 1024 + r.val) :
    iblk m c 1 t (ix3 0 r k) = m ((c : Thread nD τ).loc main_arg1) (ix3 b s k) := by
  blk_ext [iblk, V, idx t]
theorem b2 (r : Fin 6) (k : Fin 1024) (b : Fin 8) (hb : b.val = t.val / 16) :
    iblk m c 2 t (ix4 0 0 r k) = m ((c : Thread nD τ).loc main_arg2) (ix4 0 b r k) := by
  blk_ext [iblk, V, idx t]
theorem b4 (k j : Fin 1024) : iblk m c 4 t (ix3 0 k j) = V m c main_v7 (ix3 0 k j) := by
  blk_ext [iblk, idx t]
theorem b3 (k : Fin 1024) : iblk m c 3 t (ix3 0 0 k) = V m c main_v11 (ix3 0 0 k) := by
  blk_ext [iblk, idx t]
theorem b5 (k : Fin 1024) (h : Fin 2816) : iblk m c 5 t (ix3 0 k h) = V m c main_v8 (ix3 0 k h) := by
  blk_ext [iblk, idx t]
theorem b6 (k : Fin 1024) (h : Fin 2816) : iblk m c 6 t (ix3 0 k h) = V m c main_v9 (ix3 0 k h) := by
  blk_ext [iblk, idx t]
theorem b7 (k : Fin 2816) (h : Fin 1024) : iblk m c 7 t (ix3 0 k h) = V m c main_v10 (ix3 0 k h) := by
  blk_ext [iblk, idx t]
end

section
variable (c : Dev nD)
theorem v8 : (V m c main_v8 : FVec Ideal S4x1024x2816 .bf16) = (m ((c : Thread nD τ).loc main_arg5) : FVec Ideal S4x1024x2816 .f32) := by
  entry_read; rfl
theorem v9 : (V m c main_v9 : FVec Ideal S4x1024x2816 .bf16) = (m ((c : Thread nD τ).loc main_arg6) : FVec Ideal S4x1024x2816 .f32) := by
  entry_read; rfl
theorem v10 : (V m c main_v10 : FVec Ideal S4x2816x1024 .bf16) = (m ((c : Thread nD τ).loc main_arg7) : FVec Ideal S4x2816x1024 .f32) := by
  entry_read; rfl
theorem v11 (k : Fin 1024) : (V m c main_v11 : FVec Ideal S4x1x1024 .f32) (ix3 0 0 k) = (m ((c : Thread nD τ).loc main_arg3) : FVec Ideal S4x1024 .f32) (ix2 0 k) := by
  entry_read; pointwise
/-- The projection's rows put together again from their three groups. -/
def joinRows : (main_v5 : Ref sig .tc).ty.Contents (Elt Ideal) → (main_v4 : Ref sig .tc).ty.Contents (Elt Ideal) → (main_v6 : Ref sig .tc).ty.Contents (Elt Ideal) → (main_v7 : Ref sig .tc).ty.Contents (Elt Ideal) :=
  (fun u0 u1 u2 => (concatenate S4x1024x1024 1 [⟨S4x256x1024, (u0 : (⟨S4x256x1024, .bf16⟩ : BufTy).Contents (Elt Ideal))⟩, ⟨S4x512x1024, (u1 : (⟨S4x512x1024, .bf16⟩ : BufTy).Contents (Elt Ideal))⟩, ⟨S4x256x1024, (u2 : (⟨S4x256x1024, .bf16⟩ : BufTy).Contents (Elt Ideal))⟩] concatenates_S4x256x1024_S4x512x1024_S4x256x1024_S4x1024x1024_d1 : (⟨S4x1024x1024, .bf16⟩ : BufTy).Contents (Elt Ideal)))

/-- The host operations before the launch, the one that joins the row groups by name. -/
abbrev hostLine : List (HloOp τ sig (Elt Ideal)) :=
  [ StableHlo.unary main_arg4 main_v0 ((truncf (F := Ideal) .bf16 · bitsLt_bf16_f32) : (⟨S4x1024x1024, .f32⟩ : BufTy).Contents (Elt Ideal) → (⟨S4x1024x1024, .bf16⟩ : BufTy).Contents (Elt Ideal)),
    StableHlo.unary main_v0 main_v1 ((extractStridedSlice S4x512x1024 ![0, 256, 0] · slices_S4x1024x1024_S4x512x1024_0_256_0) : (⟨S4x1024x1024, .bf16⟩ : BufTy).Contents (Elt Ideal) → (⟨S4x512x1024, .bf16⟩ : BufTy).Contents (Elt Ideal)),
    StableHlo.reshape main_v1 main_v2 (rfl : (.bf16 : EltTy) = .bf16) shapeCasts_S4x512x1024_S4x2x4x64x1024,
    StableHlo.unary main_v2 main_v3 ((transpose S4x4x2x64x1024 [0, 2, 1, 3, 4] · transposes_S4x2x4x64x1024_S4x4x2x64x1024_0_2_1_3_4) : (⟨S4x2x4x64x1024, .bf16⟩ : BufTy).Contents (Elt Ideal) → (⟨S4x4x2x64x1024, .bf16⟩ : BufTy).Contents (Elt Ideal)),
    StableHlo.reshape main_v3 main_v4 (rfl : (.bf16 : EltTy) = .bf16) shapeCasts_S4x4x2x64x1024_S4x512x1024,
    StableHlo.unary main_v0 main_v5 ((extractStridedSlice S4x256x1024 ![0, 0, 0] · slices_S4x1024x1024_S4x256x1024_0_0_0) : (⟨S4x1024x1024, .bf16⟩ : BufTy).Contents (Elt Ideal) → (⟨S4x256x1024, .bf16⟩ : BufTy).Contents (Elt Ideal)),
    StableHlo.unary main_v0 main_v6 ((extractStridedSlice S4x256x1024 ![0, 768, 0] · slices_S4x1024x1024_S4x256x1024_0_768_0) : (⟨S4x1024x1024, .bf16⟩ : BufTy).Contents (Elt Ideal) → (⟨S4x256x1024, .bf16⟩ : BufTy).Contents (Elt Ideal)),
    StableHlo.nary ![main_v5, main_v4, main_v6] main_v7 (fun u => joinRows (u 0) (u 1) (u 2)),
    StableHlo.unary main_arg5 main_v8 ((truncf (F := Ideal) .bf16 · bitsLt_bf16_f32) : (⟨S4x1024x2816, .f32⟩ : BufTy).Contents (Elt Ideal) → (⟨S4x1024x2816, .bf16⟩ : BufTy).Contents (Elt Ideal)),
    StableHlo.unary main_arg6 main_v9 ((truncf (F := Ideal) .bf16 · bitsLt_bf16_f32) : (⟨S4x1024x2816, .f32⟩ : BufTy).Contents (Elt Ideal) → (⟨S4x1024x2816, .bf16⟩ : BufTy).Contents (Elt Ideal)),
    StableHlo.unary main_arg7 main_v10 ((truncf (F := Ideal) .bf16 · bitsLt_bf16_f32) : (⟨S4x2816x1024, .f32⟩ : BufTy).Contents (Elt Ideal) → (⟨S4x2816x1024, .bf16⟩ : BufTy).Contents (Elt Ideal)),
    StableHlo.reshape main_arg3 main_v11 (rfl : (.f32 : EltTy) = .f32) shapeCasts_S4x1024_S4x1x1024,
    StableHlo.reshape main_arg8 main_v12 (rfl : (.f32 : EltTy) = .f32) shapeCasts_S1024_S1x1024 ]

/-- The projection the kernel is given, as a term over the argument. -/
theorem v7_eq : V m c main_v7 = joinRows
      (extractStridedSlice S4x256x1024 ![0, 0, 0] (truncf .bf16 (m ((c : Thread nD τ).loc main_arg4) : FVec Ideal S4x1024x1024 .f32) bitsLt_bf16_f32 : FVec Ideal S4x1024x1024 .bf16) slices_S4x1024x1024_S4x256x1024_0_0_0)
      (shapeCast S4x512x1024 (transpose S4x4x2x64x1024 [0, 2, 1, 3, 4] (shapeCast S4x2x4x64x1024 (extractStridedSlice S4x512x1024 ![0, 256, 0] (truncf .bf16 (m ((c : Thread nD τ).loc main_arg4) : FVec Ideal S4x1024x1024 .f32) bitsLt_bf16_f32 : FVec Ideal S4x1024x1024 .bf16) slices_S4x1024x1024_S4x512x1024_0_256_0) shapeCasts_S4x512x1024_S4x2x4x64x1024) transposes_S4x2x4x64x1024_S4x4x2x64x1024_0_2_1_3_4) shapeCasts_S4x4x2x64x1024_S4x512x1024)
      (extractStridedSlice S4x256x1024 ![0, 768, 0] (truncf .bf16 (m ((c : Thread nD τ).loc main_arg4) : FVec Ideal S4x1024x1024 .f32) bitsLt_bf16_f32 : FVec Ideal S4x1024x1024 .bf16) slices_S4x1024x1024_S4x256x1024_0_768_0) := by
  show StableHlo.after hostLine (fun b => m (c, b)) (Proc.devRef .tc main_v7) = _
  after_results_simp
  try dsimp only [Matrix.cons_val]
  rfl

theorem v7a (k : Fin 256) (j : Fin 1024) : (V m c main_v7 : FVec Ideal S4x1024x1024 .bf16) (ix3 0 ⟨k.val, by omega⟩ j) = (m ((c : Thread nD τ).loc main_arg4) : FVec Ideal S4x1024x1024 .f32) (ix3 0 ⟨k.val, by omega⟩ j) := by
  rw [v7_eq]
  pointwise [joinRows]
theorem v7c (k : Fin 256) (j : Fin 1024) : (V m c main_v7 : FVec Ideal S4x1024x1024 .bf16) (ix3 0 ⟨768 + k.val, by omega⟩ j) = (m ((c : Thread nD τ).loc main_arg4) : FVec Ideal S4x1024x1024 .f32) (ix3 0 ⟨768 + k.val, by omega⟩ j) := by
  rw [v7_eq]
  pointwise [joinRows]
  rw [dif_neg (by omega), dif_neg (by omega)]
  exact congrArg _ ((ix3_inj ..).2 ⟨rfl, by simp only [Fin.mk.injEq]; omega, rfl⟩)
theorem v7b (k : Fin 512) (j : Fin 1024) : (V m c main_v7 : FVec Ideal S4x1024x1024 .bf16) (ix3 0 ⟨256 + k.val, by omega⟩ j)
    = (m ((c : Thread nD τ).loc main_arg4) : FVec Ideal S4x1024x1024 .f32) (ix3 0 ⟨256 + (Cert.Reference2Ideal.Ffn.colsInv k).val, by omega⟩ j) := by
  rw [v7_eq]
  pointwise [joinRows]
  rfl
theorem xrow_eq (t : Fin cfg0.N) (r j : Fin 1024) (b : Fin 2) (s : Fin 16384) (hb : b.val = t.val / 16) (hs : s.val = t.val % 16 * 1024 + r.val) :
    xrow (iblk m c 0 t) (iblk m c 1 t) (iblk m c 2 t) (iblk m c 4 t) r j
      = Cert.Reference3Ideal.Ffn.xmid (m ((c : Thread nD τ).loc main_arg0)) (m ((c : Thread nD τ).loc main_arg1))
          (m ((c : Thread nD τ).loc main_arg2)) (m ((c : Thread nD τ).loc main_arg4)) (ix3 b s j) := by
  rw [Cert.Reference3Ideal.Ffn.xmid_at]
  unfold xrow
  rw [Fin.sum_univ_two_halves 256 768 rfl, Fin.sum_univ_two_halves (N := 768) 512 256 rfl]
  refine congrArg₂ (· + ·) (b0 m c t r j b s hb hs) (congrArg₂ (· * ·) (b2 m c t 2 j ⟨b.val, by omega⟩ hb) ?_)
  refine congrArg₂ (· + ·) (Finset.sum_congr rfl fun k _ => ?_)
    (congrArg₂ (· + ·) ?_ (Finset.sum_congr rfl fun k _ => ?_))
  · exact congrArg₂ (· * ·) (b1 m c t r _ b s hb hs) ((b4 m c t _ j).trans (v7a m c k j))
  · refine Fintype.sum_equiv Cert.Reference2Ideal.Ffn.cols.symm _ _ fun k => ?_
    refine congrArg₂ (· * ·) ((b1 m c t r _ b s hb hs).trans ?_) ((b4 m c t _ j).trans ?_)
    · refine congrArg _ ((ix3_inj ..).2 ⟨rfl, rfl, ?_⟩)
      simp only [Fin.mk.injEq, Equiv.apply_symm_apply]
    · exact v7b m c k j
  · refine congrArg₂ (· * ·) ((b1 m c t r _ b s hb hs).trans ?_) ((b4 m c t _ j).trans ?_)
    · exact congrArg _ ((ix3_inj ..).2 ⟨rfl, rfl, by simp only [Fin.mk.injEq]; omega⟩)
    · refine Eq.trans (congrArg _ ((ix3_inj ..).2 ⟨rfl, ?_, rfl⟩)) (v7c m c k j)
      simp only [Fin.mk.injEq]; omega

theorem final : (dats m 0 c).arrAt 9 (cfgs 0).N
    = Cert.Reference3Ideal.Ffn.REF (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        := by
  refine (dats m 0 c).arrAt_eq_of_covers 9 _ (by decide +kernel) fun t hf y => ?_
  blk_simp
  rw [after0_9]
  idx_vars y
  obtain rfl : y0 = 0 := Subsingleton.elim _ _
  refine (out_at _ _ _ _ _ _ _ _ _ y1 y2).trans ?_
  have hb : t.val / 16 < 2 := (idx t).2.2.2.2.2.2.2.2.2.2
  have he : ((cfg0.win 9).blk t).view.emb (ix3 0 y1 y2)
      = ix3 (⟨t.val / 16, hb⟩ : Fin 2) (⟨t.val % 16 * 1024 + y1.val, by omega⟩ : Fin 16384) y2 := by blk_ext [idx t]
  refine Eq.trans ?_ (congrArg _ he.symm)
  refine Eq.trans ?_ (Cert.Reference3Ideal.Ffn.REF_at _ _ _ _ _ _ _ _ _ _ _).symm
  unfold blockOut
  refine row_congr (fun k => ?_) (fun k => ?_) (fun k => ?_) (fun k => ?_) (fun k => ?_) (fun k h => ?_) (fun k h => ?_)
    (fun h k => ?_) y2
  · exact xrow_eq m c t y1 k _ _ rfl rfl
  · exact (b3 m c t k).trans (v11 m c k)
  · exact b2 m c t 4 k ⟨t.val / 16, by omega⟩ rfl
  · exact b2 m c t 3 k ⟨t.val / 16, by omega⟩ rfl
  · exact b2 m c t 5 k ⟨t.val / 16, by omega⟩ rfl
  · exact (b5 m c t k h).trans (congrFun (v8 m c) _)
  · exact (b6 m c t k h).trans (congrFun (v9 m c) _)
  · exact (b7 m c t h k).trans (congrFun (v10 m c) _)
end

end Cert.Kernel3Ideal.Ffn

end
-- ==== Proof.FfnClaim3.lean ====
/- The value claim about the output projection and feed-forward call of layer 0, put together: the kernel's run leaves the
   array `FfnValue3` computes, the reference's run the term `FfnRef3` reads, and the two are one array. -/
module

public import proofs.«01_k».proof.Defs
public import proofs.«01_k».proof.Proof.FfnValue3
public import proofs.«01_k».proof.Proof.FfnRef3
public import proofs.«01_k».proof.Proof.Gen.Kernel3Ideal.Value
public import proofs.«01_k».proof.Proof.Gen.Reference3Ideal.Run
public import Idealize.ShloMosaic.Lib.Claim

@[expose] public section

set_option maxRecDepth 16384

noncomputable section

namespace Cert.FfnClaim3

open Idealize.ShloMosaic Idealize.ShloMosaic.TcCoe Idealize.SL.Sem

/-- From memories that agree on the arguments, the call and its reference both run and end with the same result. -/
theorem algebraic : Cert.algebraic_Kernel3Ideal_Reference3Ideal := by
  pair_intro
  · run_from Cert.Kernel3Ideal.Value.run_blocks m g
  · run_from Cert.Reference3Ideal.Value.run m' g'
    rw [Cert.Reference3Ideal.Ffn.res_eq m' c]
    obtain ⟨h0, h1, h2, h3, h4, h5, h6, h7, _⟩ := hagree c
    rw [h0, h1, h2, h3, h4, h5, h6, h7]
    exact (Cert.Kernel3Ideal.Ffn.final m c).symm

end Cert.FfnClaim3

end
-- ==== Proof.FfnRef4.lean ====
/- The reference of the projection and feed-forward call of layer 1, read row by row. -/
module

public import proofs.«01_k».proof.Proof.FfnRef
public import proofs.«01_k».proof.Proof.Gen.Reference4Ideal.Run

@[expose] public section

set_option maxRecDepth 16384

noncomputable section

open Idealize.ShloMosaic Idealize.ShloMosaic.TcCoe Idealize.SL.Sem

namespace Cert.Reference4Ideal.Ffn

open Cert.Reference4Ideal Cert.Reference4Ideal.Gen
open Cert.Kernel2Ideal.Ffn (rms glu zrow frow)
open Cert.Reference2Ideal.Ffn (cols colsTo colsInv)

variable (A0 : FVec Ideal S2x16384x1024 .f32) (A1 : FVec Ideal S2x16384x1024 .bf16) (A2 : FVec Ideal S4x8x6x1024 .f32)
  (A3 : FVec Ideal S4x1024 .f32) (A4 : FVec Ideal S4x1024x1024 .f32) (A5 A6 : FVec Ideal S4x1024x2816 .f32)
  (A7 : FVec Ideal S4x2816x1024 .f32)

/-- The stream after the mixer's projection. -/
def xmid : FVec Ideal S2x16384x1024 .f32 :=
  (addf A0 (mulf (broadcastInDim S2x16384x1024 ![0, 1, 2] bcast_S2x1x1024_S2x16384x1024_0_1_2 (broadcastInDim S2x1x1024 ![0, 2] bcast_S2x1024_S2x1x1024_0_2 (shapeCast _ (extractStridedSlice S1x2x1x1024 ![1, 0, 2, 0] A2 slices_S4x8x6x1024_S1x2x1x1024_1_0_2_0) shapeCasts_S1x2x1x1024_S2x1024))) (Host.dotGeneral dot_S2x16384x1024_S1024x1024_S2x16384x1024_2_0_01_1_n_n none ((concatenate S2x16384x1024 2 [⟨S2x16384x256, ((extractStridedSlice S2x16384x256 ![0, 0, 0] (extf .f32 A1 bitsLt_bf16_f32) slices_S2x16384x1024_S2x16384x256_0_0_0) : (⟨S2x16384x256, .f32⟩ : BufTy).Contents (Elt Ideal))⟩, ⟨S2x16384x512, ((shapeCast _ (transpose S2x16384x2x4x64 [0, 1, 3, 2, 4] (shapeCast _ (extractStridedSlice S2x16384x512 ![0, 0, 256] (extf .f32 A1 bitsLt_bf16_f32) slices_S2x16384x1024_S2x16384x512_0_0_256) shapeCasts_S2x16384x512_S2x16384x4x2x64) transposes_S2x16384x4x2x64_S2x16384x2x4x64_0_1_3_2_4) shapeCasts_S2x16384x2x4x64_S2x16384x512) : (⟨S2x16384x512, .f32⟩ : BufTy).Contents (Elt Ideal))⟩, ⟨S2x16384x256, ((extractStridedSlice S2x16384x256 ![0, 0, 768] (extf .f32 A1 bitsLt_bf16_f32) slices_S2x16384x1024_S2x16384x256_0_0_768) : (⟨S2x16384x256, .f32⟩ : BufTy).Contents (Elt Ideal))⟩] concatenates_S2x16384x256_S2x16384x512_S2x16384x256_S2x16384x1024_d2 : FVec Ideal S2x16384x1024 .f32)) (shapeCast _ (extractStridedSlice S1x1024x1024 ![1, 0, 0] A4 slices_S4x1024x1024_S1x1024x1024_1_0_0) shapeCasts_S1x1024x1024_S1024x1024))))

/-- Its modulated norm, from the stream. -/
def znorm (XM : FVec Ideal S2x16384x1024 .f32) : FVec Ideal S2x16384x1024 .f32 :=
  (addf (mulf (mulf (mulf XM (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf XM XM) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast _ (extractStridedSlice S1x1024 ![1, 0] A3 slices_S4x1024_S1x1024_1_0) shapeCasts_S1x1024_S1024)))) (broadcastInDim S2x16384x1024 ![0, 1, 2] bcast_S2x1x1024_S2x16384x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S1x2x1x1024 ![1, 0, 4, 0] A2 slices_S4x8x6x1024_S1x2x1x1024_1_0_4_0) shapeCasts_S1x2x1x1024_S2x1024))))) (broadcastInDim S2x16384x1024 ![0, 1, 2] bcast_S2x1x1024_S2x16384x1024_0_1_2 (broadcastInDim S2x1x1024 ![0, 2] bcast_S2x1024_S2x1x1024_0_2 (shapeCast _ (extractStridedSlice S1x2x1x1024 ![1, 0, 3, 0] A2 slices_S4x8x6x1024_S1x2x1x1024_1_0_3_0) shapeCasts_S1x2x1x1024_S2x1024))))

/-- The stream after the feed-forward layer, from the stream and the modulated norm. -/
def ffn (XM Z : FVec Ideal S2x16384x1024 .f32) : FVec Ideal S2x16384x1024 .f32 :=
  (addf XM (mulf (broadcastInDim S2x16384x1024 ![0, 1, 2] bcast_S2x1x1024_S2x16384x1024_0_1_2 (broadcastInDim S2x1x1024 ![0, 2] bcast_S2x1024_S2x1x1024_0_2 (shapeCast _ (extractStridedSlice S1x2x1x1024 ![1, 0, 5, 0] A2 slices_S4x8x6x1024_S1x2x1x1024_1_0_5_0) shapeCasts_S1x2x1x1024_S2x1024))) (Host.dotGeneral dot_S2x16384x2816_S2816x1024_S2x16384x1024_2_0_01_1_n_n none (mulf (mulf (Host.dotGeneral dot_S2x16384x1024_S1024x2816_S2x16384x2816_2_0_01_1_n_n none Z (shapeCast _ (extractStridedSlice S1x1024x2816 ![1, 0, 0] A5 slices_S4x1024x2816_S1x1024x2816_1_0_0) shapeCasts_S1x1024x2816_S1024x2816)) (Host.divf (broadcastInDim S2x16384x2816 ![] bcast_S_S2x16384x2816 (constant S_ .f32 0x3F800000#32)) (addf (broadcastInDim S2x16384x2816 ![] bcast_S_S2x16384x2816 (constant S_ .f32 0x3F800000#32)) (Host.exp (Host.negf (Host.dotGeneral dot_S2x16384x1024_S1024x2816_S2x16384x2816_2_0_01_1_n_n none Z (shapeCast _ (extractStridedSlice S1x1024x2816 ![1, 0, 0] A5 slices_S4x1024x2816_S1x1024x2816_1_0_0) shapeCasts_S1x1024x2816_S1024x2816))))))) (Host.dotGeneral dot_S2x16384x1024_S1024x2816_S2x16384x2816_2_0_01_1_n_n none Z (shapeCast _ (extractStridedSlice S1x1024x2816 ![1, 0, 0] A6 slices_S4x1024x2816_S1x1024x2816_1_0_0) shapeCasts_S1x1024x2816_S1024x2816))) (shapeCast _ (extractStridedSlice S1x2816x1024 ![1, 0, 0] A7 slices_S4x2816x1024_S1x2816x1024_1_0_0) shapeCasts_S1x2816x1024_S2816x1024))))

/-- The whole reference. -/
def REF : FVec Ideal S2x16384x1024 .f32 :=
  ffn A2 A5 A6 A7 (xmid A0 A1 A2 A4) (znorm A2 A3 (xmid A0 A1 A2 A4))

/-- The reference's run ends at this term. -/
theorem res_eq (m : (ℓ : Loc nD τ sig) → Buf (Elt Ideal) ℓ) (c : Dev nD) :
    Cert.Reference4Ideal.Value.res_main_v66 (F := Ideal) m c
      = REF (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rfl

theorem znorm_at (XM : FVec Ideal S2x16384x1024 .f32) (b : Fin 2) (s : Fin 16384) (j : Fin 1024) :
    znorm A2 A3 XM (ix3 b s j) = zrow (fun k => XM (ix3 b s k)) (fun k => A3 (ix2 1 k)) (fun k => A2 (ix4 1 ⟨b.val, by omega⟩ 4 k))
      (fun k => A2 (ix4 1 ⟨b.val, by omega⟩ 3 k)) j := by
  pointwise! [znorm, zrow, rms, zero_add]

theorem ffn_at (XM : FVec Ideal S2x16384x1024 .f32) (b : Fin 2) (s : Fin 16384) (j : Fin 1024) :
    ffn A2 A5 A6 A7 XM (znorm A2 A3 XM) (ix3 b s j)
      = frow (fun k => XM (ix3 b s k)) (fun k => A3 (ix2 1 k)) (fun k => A2 (ix4 1 ⟨b.val, by omega⟩ 4 k))
          (fun k => A2 (ix4 1 ⟨b.val, by omega⟩ 3 k)) (fun k => A2 (ix4 1 ⟨b.val, by omega⟩ 5 k))
          (fun k h => A5 (ix3 1 k h)) (fun k h => A6 (ix3 1 k h)) (fun h k => A7 (ix3 1 h k)) j := by
  pointwise! [ffn, frow, glu, znorm_at]

theorem xmid_at (b : Fin 2) (s : Fin 16384) (j : Fin 1024) :
    xmid A0 A1 A2 A4 (ix3 b s j) = A0 (ix3 b s j) + A2 (ix4 1 ⟨b.val, by omega⟩ 2 j) *
      (∑ k : Fin 256, A1 (ix3 b s ⟨k.val, by omega⟩) * A4 (ix3 1 ⟨k.val, by omega⟩ j)
        + (∑ k : Fin 512, A1 (ix3 b s ⟨256 + (cols k).val, by omega⟩) * A4 (ix3 1 ⟨256 + k.val, by omega⟩ j)
          + ∑ k : Fin 256, A1 (ix3 b s ⟨768 + k.val, by omega⟩) * A4 (ix3 1 ⟨768 + k.val, by omega⟩ j))) := by
  pointwise [xmid]
  refine congrArg₂ (· + ·) rfl (congrArg₂ (· * ·) rfl ?_)
  rw [Fin.sum_univ_two_halves 256 768 rfl, Fin.sum_univ_two_halves (N := 768) 512 256 rfl]
  refine congrArg₂ (· + ·) (Finset.sum_congr rfl fun k _ => ?_)
    (congrArg₂ (· + ·) (Finset.sum_congr rfl fun k _ => ?_) (Finset.sum_congr rfl fun k _ => ?_))
  · rw [dif_pos (show k.val < 256 from k.isLt)]
  · rw [dif_neg (by dsimp only; omega), dif_pos (by dsimp only; omega)]
    refine congrArg₂ (· * ·) (congrArg A1 ?_) rfl
    simp only [Nat.add_sub_cancel_left]
    rfl
  · rw [dif_neg (by dsimp only; omega), dif_neg (by dsimp only; omega)]
    refine congrArg₂ (· * ·) (congrArg A1 ?_) (congrArg A4 ?_)
    · refine (ix3_inj ..).2 ⟨rfl, rfl, ?_⟩
      simp only [Fin.mk.injEq]; omega
    · refine (ix3_inj ..).2 ⟨rfl, ?_, rfl⟩
      simp only [Fin.mk.injEq]; omega

/-- The whole reference, read row by row. -/
theorem REF_at (b : Fin 2) (s : Fin 16384) (j : Fin 1024) :
    REF A0 A1 A2 A3 A4 A5 A6 A7 (ix3 b s j)
      = frow (fun k => xmid A0 A1 A2 A4 (ix3 b s k)) (fun k => A3 (ix2 1 k)) (fun k => A2 (ix4 1 ⟨b.val, by omega⟩ 4 k))
          (fun k => A2 (ix4 1 ⟨b.val, by omega⟩ 3 k)) (fun k => A2 (ix4 1 ⟨b.val, by omega⟩ 5 k))
          (fun k h => A5 (ix3 1 k h)) (fun k h => A6 (ix3 1 k h)) (fun h k => A7 (ix3 1 h k)) j := by
  unfold REF
  rw [ffn_at]

end Cert.Reference4Ideal.Ffn

end
-- ==== Proof.FfnValue4.lean ====
/- The projection and feed-forward call of layer 1: its result array is its reference's term. -/
module

public import proofs.«01_k».proof.Proof.FfnRow
public import proofs.«01_k».proof.Proof.FfnRef4
public import proofs.«01_k».proof.Proof.Gen.Kernel4Ideal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Ffn

open Cert.Kernel4Ideal Cert.Kernel4Ideal.Gen
open Cert.Kernel2Ideal.Ffn (frow half znorm half_at)

section
variable (x0 : FVec Ideal S1x1024x1024 .f32) (x1 : FVec Ideal S1x1024x1024 .bf16) (x2 : FVec Ideal S1x1x6x1024 .f32)
    (x3 : FVec Ideal S1x1x1024 .f32) (x4 : FVec Ideal S1x1024x1024 .bf16) (x5 x6 : FVec Ideal S1x1024x2816 .bf16)
    (x7 : FVec Ideal S1x2816x1024 .bf16) (x8 : FVec Ideal S1x1024 .f32)

/-- A row of the block after the mixer's projection. -/
def xrow (r : Fin 1024) (j : Fin 1024) : EReal :=
  x0 (ix3 0 r j) + x2 (ix4 0 0 2 j) * ∑ k : Fin 1024, x1 (ix3 0 r k) * x4 (ix3 0 k j)

/-- What the body leaves at a row and column of the block. -/
def blockOut (r j : Fin 1024) : EReal :=
  frow (xrow x0 x1 x2 x4 r) (fun k => x3 (ix3 0 0 k)) (fun k => x2 (ix4 0 0 4 k)) (fun k => x2 (ix4 0 0 3 k))
    (fun k => x2 (ix4 0 0 5 k)) (fun k h => x5 (ix3 0 k h)) (fun k h => x6 (ix3 0 k h)) (fun h k => x7 (ix3 0 h k)) j

/-- The stream after the mixer's projection, first half of the block. -/
theorem xmid0 (i : Fin 512) (j : Fin 1024) :
    k0_pay44 (F := Ideal) x0 x1 x2 x3 x4 x5 x6 x7 x8 (ix2 i j) = xrow x0 x1 x2 x4 ⟨i.val, by omega⟩ j := by
  pointwise! [k0_pay44, k0_pay2, xrow, zero_add]

/-- The stream after the mixer's projection, second half of the block. -/
theorem xmid1 (i : Fin 512) (j : Fin 1024) :
    k0_pay45 (F := Ideal) x0 x1 x2 x3 x4 x5 x6 x7 x8 (ix2 i j) = xrow x0 x1 x2 x4 ⟨512 + i.val, by omega⟩ j := by
  pointwise! [k0_pay45, k0_pay3, xrow, zero_add]

end

section
variable (x0 : Vec Ideal S1x1024x1024 .f32) (x1 : Vec Ideal S1x1024x1024 .bf16) (x2 : Vec Ideal S1x1x6x1024 .f32)
    (x3 : Vec Ideal S1x1x1024 .f32) (x4 : Vec Ideal S1x1024x1024 .bf16) (x5 x6 : Vec Ideal S1x1024x2816 .bf16)
    (x7 : Vec Ideal S1x2816x1024 .bf16) (x8 : Vec Ideal S1x1024 .f32)

/-- A half block as it is stored. -/
def store (y : FVec Ideal S512x1024 .f32) : FVec Ideal S1x512x1024 .f32 :=
  shapeCast S1x512x1024 y shapeCasts_S512x1024_S1x512x1024

/-- A stored half block, read at an index. -/
theorem store_at (y : FVec Ideal S512x1024 .f32) (i : Fin 512) (j : Fin 1024) : store y (ix3 0 i j) = y (ix2 i j) := by
  pointwise [store]

/-- The first stored piece. -/
theorem piece0 :
    k0_pay27 (k0_pay44 x0 x1 x2 x3 x4 x5 x6 x7 x8) (k0_pay48 x0 x1 x2 x3 x4 x5 x6 x7 x8) (k0_pay25 (k0_pay48 x0 x1 x2 x3 x4 x5 x6 x7 x8) (k0_pay24 (k0_pay48 x0 x1 x2 x3 x4 x5 x6 x7 x8) (k0_pay21 (k0_pay48 x0 x1 x2 x3 x4 x5 x6 x7 x8) (k0_pay17 (k0_pay48 x0 x1 x2 x3 x4 x5 x6 x7 x8) (k0_pay11 (k0_pay48 x0 x1 x2 x3 x4 x5 x6 x7 x8) (k0_pay7 (F := Ideal)) (k0_pay8 (k0_pay44 x0 x1 x2 x3 x4 x5 x6 x7 x8) (k0_pay46 x0 x1 x2 x3 x4 x5 x6 x7 x8) (k0_pay47 x0 x1 x2 x3 x4 x5 x6 x7 x8) (View.ld x3 r0_4) (View.ld x2 r0_5) (View.ld x2 r0_6) (View.ld x5 r0_7)) (k0_pay9 (k0_pay44 x0 x1 x2 x3 x4 x5 x6 x7 x8) (k0_pay46 x0 x1 x2 x3 x4 x5 x6 x7 x8) (k0_pay47 x0 x1 x2 x3 x4 x5 x6 x7 x8) (View.ld x3 r0_4) (View.ld x2 r0_5) (View.ld x2 r0_6) (View.ld x6 r0_7)) (k0_pay10 (k0_pay44 x0 x1 x2 x3 x4 x5 x6 x7 x8) (k0_pay46 x0 x1 x2 x3 x4 x5 x6 x7 x8) (k0_pay47 x0 x1 x2 x3 x4 x5 x6 x7 x8) (View.ld x3 r0_4) (View.ld x2 r0_5) (View.ld x2 r0_6) (View.ld x5 r0_7)) (View.ld x7 r0_8) (View.ld x5 r0_9) (View.ld x6 r0_9) (View.ld x7 r0_10)) (k0_pay15 (k0_pay48 x0 x1 x2 x3 x4 x5 x6 x7 x8) (View.ld x5 r0_11) (View.ld x6 r0_11)) (k0_pay16 (View.ld x7 r0_12)) (View.ld x5 r0_13) (View.ld x6 r0_13) (View.ld x7 r0_14)) (k0_pay18 (k0_pay48 x0 x1 x2 x3 x4 x5 x6 x7 x8) (View.ld x5 r0_15)) (k0_pay19 (k0_pay48 x0 x1 x2 x3 x4 x5 x6 x7 x8) (View.ld x6 r0_15)) (k0_pay20 (k0_pay48 x0 x1 x2 x3 x4 x5 x6 x7 x8) (View.ld x5 r0_15)) (Scalar.ofBits (F := Ideal) .f32 0x3F800000#32) (View.ld x7 r0_16) (View.ld x5 r0_17) (View.ld x6 r0_17) (View.ld x7 r0_18)) (k0_pay22 (k0_pay48 x0 x1 x2 x3 x4 x5 x6 x7 x8) (View.ld x5 r0_19)) (k0_pay23 (View.ld x6 r0_19)) (View.ld x7 r0_20) (View.ld x5 r0_21) (View.ld x6 r0_21) (View.ld x7 r0_22)) (View.ld x5 r0_23) (View.ld x6 r0_23) (View.ld x7 r0_24)) (k0_pay26 (k0_pay48 x0 x1 x2 x3 x4 x5 x6 x7 x8) (View.ld x5 r0_25) (View.ld x6 r0_25)) (View.ld x7 r0_26) (View.ld x5 r0_27) (View.ld x6 r0_27) (View.ld x7 r0_28) (View.ld x2 r0_29)
      = store (half (k0_pay44 x0 x1 x2 x3 x4 x5 x6 x7 x8) (znorm (k0_pay44 x0 x1 x2 x3 x4 x5 x6 x7 x8) (View.ld x3 r0_4) (View.ld x2 r0_5) (View.ld x2 r0_6)) x5 x6 x7 (View.ld x2 r0_29)) := by
  rfl

/-- The second stored piece. -/
theorem piece1 :
    k0_pay1 (k0_pay45 x0 x1 x2 x3 x4 x5 x6 x7 x8) (k0_pay49 x0 x1 x2 x3 x4 x5 x6 x7 x8) (k0_pay42 (k0_pay49 x0 x1 x2 x3 x4 x5 x6 x7 x8) (k0_pay38 (k0_pay49 x0 x1 x2 x3 x4 x5 x6 x7 x8) (k0_pay36 (k0_pay49 x0 x1 x2 x3 x4 x5 x6 x7 x8) (k0_pay34 (k0_pay49 x0 x1 x2 x3 x4 x5 x6 x7 x8) (k0_pay30 (k0_pay49 x0 x1 x2 x3 x4 x5 x6 x7 x8) (k0_pay28 (k0_pay49 x0 x1 x2 x3 x4 x5 x6 x7 x8) (k0_pay14 (F := Ideal)) (View.ld x5 r0_7) (View.ld x6 r0_7) (View.ld x7 r0_8)) (k0_pay29 (k0_pay49 x0 x1 x2 x3 x4 x5 x6 x7 x8) (View.ld x5 r0_9) (View.ld x6 r0_9)) (View.ld x7 r0_10) (View.ld x5 r0_11) (View.ld x6 r0_11) (View.ld x7 r0_12)) (k0_pay31 (k0_pay49 x0 x1 x2 x3 x4 x5 x6 x7 x8) (View.ld x5 r0_13)) (k0_pay32 (k0_pay49 x0 x1 x2 x3 x4 x5 x6 x7 x8) (View.ld x6 r0_13)) (k0_pay33 (F := Ideal)) (View.ld x7 r0_14) (View.ld x5 r0_15) (View.ld x6 r0_15) (View.ld x7 r0_16)) (k0_pay35 (View.ld x5 r0_17)) (constant (F := Ideal) S512x256 .f32 0x00000000#32) (View.ld x6 r0_17) (View.ld x7 r0_18)) (k0_pay37 (k0_pay49 x0 x1 x2 x3 x4 x5 x6 x7 x8) (View.ld x5 r0_19) (View.ld x6 r0_19)) (View.ld x7 r0_20) (View.ld x5 r0_21) (View.ld x6 r0_21) (View.ld x7 r0_22)) (k0_pay39 (k0_pay49 x0 x1 x2 x3 x4 x5 x6 x7 x8) (View.ld x5 r0_23)) (k0_pay40 (k0_pay49 x0 x1 x2 x3 x4 x5 x6 x7 x8) (View.ld x6 r0_23)) (k0_pay41 (k0_pay49 x0 x1 x2 x3 x4 x5 x6 x7 x8) (View.ld x5 r0_23)) (View.ld x7 r0_24) (View.ld x5 r0_25) (View.ld x6 r0_25) (View.ld x7 r0_26)) (k0_pay43 (k0_pay49 x0 x1 x2 x3 x4 x5 x6 x7 x8) (View.ld x5 r0_27)) (View.ld x6 r0_27) (View.ld x7 r0_28) (View.ld x2 r0_29)
      = store (half (k0_pay45 x0 x1 x2 x3 x4 x5 x6 x7 x8) (znorm (k0_pay45 x0 x1 x2 x3 x4 x5 x6 x7 x8) (View.ld x3 r0_4) (View.ld x2 r0_5) (View.ld x2 r0_6)) x5 x6 x7 (View.ld x2 r0_29)) := by
  rfl

/-- Either stored piece, read at an index. -/
theorem piece_at (X : FVec Ideal S512x1024 .f32) (r : Fin 1024) (i : Fin 512) (j : Fin 1024)
    (hX : ∀ k, X (ix2 i k) = xrow x0 x1 x2 x4 r k) :
    store (half X (znorm X (View.ld x3 r0_4) (View.ld x2 r0_5) (View.ld x2 r0_6)) x5 x6 x7 (View.ld x2 r0_29)) (ix3 0 i j)
      = blockOut x0 x1 x2 x3 x4 x5 x6 x7 r j := by
  rw [store_at, half_at]
  simp only [hX]
  pointwise
  rfl

/-- What the body leaves at a row and column of the block. -/
theorem out_at (r j : Fin 1024) :
    out0_9 (F := Ideal) x0 x1 x2 x3 x4 x5 x6 x7 x8 (ix3 0 r j) = blockOut x0 x1 x2 x3 x4 x5 x6 x7 r j := by
  unfold out0_9
  rw [piece0, piece1]
  canon_tiles q h
  all_goals idx_vars q
  all_goals obtain rfl : q0 = 0 := Subsingleton.elim _ _
  · obtain rfl : q2 = j := Fin.ext h2.symm
    refine piece_at x0 x1 x2 x3 x4 x5 x6 x7 _ r q1 q2 fun k => (xmid1 x0 x1 x2 x3 x4 x5 x6 x7 x8 q1 k).trans ?_
    exact congrArg (xrow x0 x1 x2 x4 · k) (Fin.ext h1.symm)
  · obtain rfl : q2 = j := Fin.ext h2.symm
    refine piece_at x0 x1 x2 x3 x4 x5 x6 x7 _ r q1 q2 fun k => (xmid0 x0 x1 x2 x3 x4 x5 x6 x7 x8 q1 k).trans ?_
    exact congrArg (xrow x0 x1 x2 x4 · k) (Fin.ext h1.symm)
end

variable (m : (ℓ : Loc nD τ sig) → Buf (Elt Ideal) ℓ)

theorem idx : ∀ t : Fin cfg0.N, win0_0.index t = ![t.val / 16, t.val % 16, 0] ∧ win0_1.index t = ![t.val / 16, t.val % 16, 0]
    ∧ win0_2.index t = ![1, t.val / 16, 0, 0] ∧ win0_3.index t = ![1, 0, 0] ∧ win0_4.index t = ![1, 0, 0] ∧ win0_5.index t = ![1, 0, 0]
    ∧ win0_6.index t = ![1, 0, 0] ∧ win0_7.index t = ![1, 0, 0] ∧ win0_8.index t = ![0, 0] ∧ win0_9.index t = ![t.val / 16, t.val % 16, 0]
    ∧ t.val / 16 < 2 :=
  (by decide +kernel : ∀ t : Fin grid0.N, _)

/-- Rows with equal ingredients are equal. -/
theorem row_congr {X X' N2 N2' SC SC' SH SH' G2 G2' : Fin 1024 → EReal} {WG WG' WU WU' : Fin 1024 → Fin 2816 → EReal}
    {WD WD' : Fin 2816 → Fin 1024 → EReal} (hX : ∀ k, X k = X' k) (hN : ∀ k, N2 k = N2' k) (hC : ∀ k, SC k = SC' k) (hH : ∀ k, SH k = SH' k)
    (hG : ∀ k, G2 k = G2' k) (hWG : ∀ k h, WG k h = WG' k h) (hWU : ∀ k h, WU k h = WU' k h)
    (hWD : ∀ h k, WD h k = WD' h k) (j : Fin 1024) :
    frow X N2 SC SH G2 WG WU WD j = frow X' N2' SC' SH' G2' WG' WU' WD' j := by
  obtain rfl := funext hX; obtain rfl := funext hN; obtain rfl := funext hC; obtain rfl := funext hH; obtain rfl := funext hG
  obtain rfl := funext fun k => funext (hWG k); obtain rfl := funext fun k => funext (hWU k)
  obtain rfl := funext fun k => funext (hWD k)
  rfl

section
variable (c : Dev nD) (t : Fin cfg0.N)
theorem b0 (r k : Fin 1024) (b : Fin 2) (s : Fin 16384) (hb : b.val = t.val / 16) (hs : s.val = t.val % 16 * 1024 + r.val) :
    iblk m c 0 t (ix3 0 r k) = m ((c : Thread nD τ).loc main_arg0) (ix3 b s k) := by
  blk_ext [iblk, V, idx t]
theorem b1 (r k : Fin 1024) (b : Fin 2) (s : Fin 16384) (hb : b.val = t.val / 16) (hs : s.val = t.val % 16 * 1024 + r.val) :
    iblk m c 1 t (ix3 0 r k) = m ((c : Thread nD τ).loc main_arg1) (ix3 b s k) := by
  blk_ext [iblk, V, idx t]
theorem b2 (r : Fin 6) (k : Fin 1024) (b : Fin 8) (hb : b.val = t.val / 16) :
    iblk m c 2 t (ix4 0 0 r k) = m ((c : Thread nD τ).loc main_arg2) (ix4 1 b r k) := by
  blk_ext [iblk, V, idx t]
theorem b4 (k j : Fin 1024) : iblk m c 4 t (ix3 0 k j) = V m c main_v7 (ix3 1 k j) := by
  blk_ext [iblk, idx t]
theorem b3 (k : Fin 1024) : iblk m c 3 t (ix3 0 0 k) = V m c main_v11 (ix3 1 0 k) := by
  blk_ext [iblk, idx t]
theorem b5 (k : Fin 1024) (h : Fin 2816) : iblk m c 5 t (ix3 0 k h) = V m c main_v8 (ix3 1 k h) := by
  blk_ext [iblk, idx t]
theorem b6 (k : Fin 1024) (h : Fin 2816) : iblk m c 6 t (ix3 0 k h) = V m c main_v9 (ix3 1 k h) := by
  blk_ext [iblk, idx t]
theorem b7 (k : Fin 2816) (h : Fin 1024) : iblk m c 7 t (ix3 0 k h) = V m c main_v10 (ix3 1 k h) := by
  blk_ext [iblk, idx t]
end

section
variable (c : Dev nD)
theorem v8 : (V m c main_v8 : FVec Ideal S4x1024x2816 .bf16) = (m ((c : Thread nD τ).loc main_arg5) : FVec Ideal S4x1024x2816 .f32) := by
  entry_read; rfl
theorem v9 : (V m c main_v9 : FVec Ideal S4x1024x2816 .bf16) = (m ((c : Thread nD τ).loc main_arg6) : FVec Ideal S4x1024x2816 .f32) := by
  entry_read; rfl
theorem v10 : (V m c main_v10 : FVec Ideal S4x2816x1024 .bf16) = (m ((c : Thread nD τ).loc main_arg7) : FVec Ideal S4x2816x1024 .f32) := by
  entry_read; rfl
theorem v11 (k : Fin 1024) : (V m c main_v11 : FVec Ideal S4x1x1024 .f32) (ix3 1 0 k) = (m ((c : Thread nD τ).loc main_arg3) : FVec Ideal S4x1024 .f32) (ix2 1 k) := by
  entry_read; pointwise
/-- The projection's rows put together again from their three groups. -/
def joinRows : (main_v5 : Ref sig .tc).ty.Contents (Elt Ideal) → (main_v4 : Ref sig .tc).ty.Contents (Elt Ideal) → (main_v6 : Ref sig .tc).ty.Contents (Elt Ideal) → (main_v7 : Ref sig .tc).ty.Contents (Elt Ideal) :=
  (fun u0 u1 u2 => (concatenate S4x1024x1024 1 [⟨S4x256x1024, (u0 : (⟨S4x256x1024, .bf16⟩ : BufTy).Contents (Elt Ideal))⟩, ⟨S4x512x1024, (u1 : (⟨S4x512x1024, .bf16⟩ : BufTy).Contents (Elt Ideal))⟩, ⟨S4x256x1024, (u2 : (⟨S4x256x1024, .bf16⟩ : BufTy).Contents (Elt Ideal))⟩] concatenates_S4x256x1024_S4x512x1024_S4x256x1024_S4x1024x1024_d1 : (⟨S4x1024x1024, .bf16⟩ : BufTy).Contents (Elt Ideal)))

/-- The host operations before the launch, the one that joins the row groups by name. -/
abbrev hostLine : List (HloOp τ sig (Elt Ideal)) :=
  [ StableHlo.unary main_arg4 main_v0 ((truncf (F := Ideal) .bf16 · bitsLt_bf16_f32) : (⟨S4x1024x1024, .f32⟩ : BufTy).Contents (Elt Ideal) → (⟨S4x1024x1024, .bf16⟩ : BufTy).Contents (Elt Ideal)),
    StableHlo.unary main_v0 main_v1 ((extractStridedSlice S4x512x1024 ![0, 256, 0] · slices_S4x1024x1024_S4x512x1024_0_256_0) : (⟨S4x1024x1024, .bf16⟩ : BufTy).Contents (Elt Ideal) → (⟨S4x512x1024, .bf16⟩ : BufTy).Contents (Elt Ideal)),
    StableHlo.reshape main_v1 main_v2 (rfl : (.bf16 : EltTy) = .bf16) shapeCasts_S4x512x1024_S4x2x4x64x1024,
    StableHlo.unary main_v2 main_v3 ((transpose S4x4x2x64x1024 [0, 2, 1, 3, 4] · transposes_S4x2x4x64x1024_S4x4x2x64x1024_0_2_1_3_4) : (⟨S4x2x4x64x1024, .bf16⟩ : BufTy).Contents (Elt Ideal) → (⟨S4x4x2x64x1024, .bf16⟩ : BufTy).Contents (Elt Ideal)),
    StableHlo.reshape main_v3 main_v4 (rfl : (.bf16 : EltTy) = .bf16) shapeCasts_S4x4x2x64x1024_S4x512x1024,
    StableHlo.unary main_v0 main_v5 ((extractStridedSlice S4x256x1024 ![0, 0, 0] · slices_S4x1024x1024_S4x256x1024_0_0_0) : (⟨S4x1024x1024, .bf16⟩ : BufTy).Contents (Elt Ideal) → (⟨S4x256x1024, .bf16⟩ : BufTy).Contents (Elt Ideal)),
    StableHlo.unary main_v0 main_v6 ((extractStridedSlice S4x256x1024 ![0, 768, 0] · slices_S4x1024x1024_S4x256x1024_0_768_0) : (⟨S4x1024x1024, .bf16⟩ : BufTy).Contents (Elt Ideal) → (⟨S4x256x1024, .bf16⟩ : BufTy).Contents (Elt Ideal)),
    StableHlo.nary ![main_v5, main_v4, main_v6] main_v7 (fun u => joinRows (u 0) (u 1) (u 2)),
    StableHlo.unary main_arg5 main_v8 ((truncf (F := Ideal) .bf16 · bitsLt_bf16_f32) : (⟨S4x1024x2816, .f32⟩ : BufTy).Contents (Elt Ideal) → (⟨S4x1024x2816, .bf16⟩ : BufTy).Contents (Elt Ideal)),
    StableHlo.unary main_arg6 main_v9 ((truncf (F := Ideal) .bf16 · bitsLt_bf16_f32) : (⟨S4x1024x2816, .f32⟩ : BufTy).Contents (Elt Ideal) → (⟨S4x1024x2816, .bf16⟩ : BufTy).Contents (Elt Ideal)),
    StableHlo.unary main_arg7 main_v10 ((truncf (F := Ideal) .bf16 · bitsLt_bf16_f32) : (⟨S4x2816x1024, .f32⟩ : BufTy).Contents (Elt Ideal) → (⟨S4x2816x1024, .bf16⟩ : BufTy).Contents (Elt Ideal)),
    StableHlo.reshape main_arg3 main_v11 (rfl : (.f32 : EltTy) = .f32) shapeCasts_S4x1024_S4x1x1024,
    StableHlo.reshape main_arg8 main_v12 (rfl : (.f32 : EltTy) = .f32) shapeCasts_S1024_S1x1024 ]

/-- The projection the kernel is given, as a term over the argument. -/
theorem v7_eq : V m c main_v7 = joinRows
      (extractStridedSlice S4x256x1024 ![0, 0, 0] (truncf .bf16 (m ((c : Thread nD τ).loc main_arg4) : FVec Ideal S4x1024x1024 .f32) bitsLt_bf16_f32 : FVec Ideal S4x1024x1024 .bf16) slices_S4x1024x1024_S4x256x1024_0_0_0)
      (shapeCast S4x512x1024 (transpose S4x4x2x64x1024 [0, 2, 1, 3, 4] (shapeCast S4x2x4x64x1024 (extractStridedSlice S4x512x1024 ![0, 256, 0] (truncf .bf16 (m ((c : Thread nD τ).loc main_arg4) : FVec Ideal S4x1024x1024 .f32) bitsLt_bf16_f32 : FVec Ideal S4x1024x1024 .bf16) slices_S4x1024x1024_S4x512x1024_0_256_0) shapeCasts_S4x512x1024_S4x2x4x64x1024) transposes_S4x2x4x64x1024_S4x4x2x64x1024_0_2_1_3_4) shapeCasts_S4x4x2x64x1024_S4x512x1024)
      (extractStridedSlice S4x256x1024 ![0, 768, 0] (truncf .bf16 (m ((c : Thread nD τ).loc main_arg4) : FVec Ideal S4x1024x1024 .f32) bitsLt_bf16_f32 : FVec Ideal S4x1024x1024 .bf16) slices_S4x1024x1024_S4x256x1024_0_768_0) := by
  show StableHlo.after hostLine (fun b => m (c, b)) (Proc.devRef .tc main_v7) = _
  after_results_simp
  try dsimp only [Matrix.cons_val]
  rfl

theorem v7a (k : Fin 256) (j : Fin 1024) : (V m c main_v7 : FVec Ideal S4x1024x1024 .bf16) (ix3 1 ⟨k.val, by omega⟩ j) = (m ((c : Thread nD τ).loc main_arg4) : FVec Ideal S4x1024x1024 .f32) (ix3 1 ⟨k.val, by omega⟩ j) := by
  rw [v7_eq]
  pointwise [joinRows]
theorem v7c (k : Fin 256) (j : Fin 1024) : (V m c main_v7 : FVec Ideal S4x1024x1024 .bf16) (ix3 1 ⟨768 + k.val, by omega⟩ j) = (m ((c : Thread nD τ).loc main_arg4) : FVec Ideal S4x1024x1024 .f32) (ix3 1 ⟨768 + k.val, by omega⟩ j) := by
  rw [v7_eq]
  pointwise [joinRows]
  rw [dif_neg (by omega), dif_neg (by omega)]
  exact congrArg _ ((ix3_inj ..).2 ⟨rfl, by simp only [Fin.mk.injEq]; omega, rfl⟩)
theorem v7b (k : Fin 512) (j : Fin 1024) : (V m c main_v7 : FVec Ideal S4x1024x1024 .bf16) (ix3 1 ⟨256 + k.val, by omega⟩ j)
    = (m ((c : Thread nD τ).loc main_arg4) : FVec Ideal S4x1024x1024 .f32) (ix3 1 ⟨256 + (Cert.Reference2Ideal.Ffn.colsInv k).val, by omega⟩ j) := by
  rw [v7_eq]
  pointwise [joinRows]
  rfl
theorem xrow_eq (t : Fin cfg0.N) (r j : Fin 1024) (b : Fin 2) (s : Fin 16384) (hb : b.val = t.val / 16) (hs : s.val = t.val % 16 * 1024 + r.val) :
    xrow (iblk m c 0 t) (iblk m c 1 t) (iblk m c 2 t) (iblk m c 4 t) r j
      = Cert.Reference4Ideal.Ffn.xmid (m ((c : Thread nD τ).loc main_arg0)) (m ((c : Thread nD τ).loc main_arg1))
          (m ((c : Thread nD τ).loc main_arg2)) (m ((c : Thread nD τ).loc main_arg4)) (ix3 b s j) := by
  rw [Cert.Reference4Ideal.Ffn.xmid_at]
  unfold xrow
  rw [Fin.sum_univ_two_halves 256 768 rfl, Fin.sum_univ_two_halves (N := 768) 512 256 rfl]
  refine congrArg₂ (· + ·) (b0 m c t r j b s hb hs) (congrArg₂ (· * ·) (b2 m c t 2 j ⟨b.val, by omega⟩ hb) ?_)
  refine congrArg₂ (· + ·) (Finset.sum_congr rfl fun k _ => ?_)
    (congrArg₂ (· + ·) ?_ (Finset.sum_congr rfl fun k _ => ?_))
  · exact congrArg₂ (· * ·) (b1 m c t r _ b s hb hs) ((b4 m c t _ j).trans (v7a m c k j))
  · refine Fintype.sum_equiv Cert.Reference2Ideal.Ffn.cols.symm _ _ fun k => ?_
    refine congrArg₂ (· * ·) ((b1 m c t r _ b s hb hs).trans ?_) ((b4 m c t _ j).trans ?_)
    · refine congrArg _ ((ix3_inj ..).2 ⟨rfl, rfl, ?_⟩)
      simp only [Fin.mk.injEq, Equiv.apply_symm_apply]
    · exact v7b m c k j
  · refine congrArg₂ (· * ·) ((b1 m c t r _ b s hb hs).trans ?_) ((b4 m c t _ j).trans ?_)
    · exact congrArg _ ((ix3_inj ..).2 ⟨rfl, rfl, by simp only [Fin.mk.injEq]; omega⟩)
    · refine Eq.trans (congrArg _ ((ix3_inj ..).2 ⟨rfl, ?_, rfl⟩)) (v7c m c k j)
      simp only [Fin.mk.injEq]; omega

theorem final : (dats m 0 c).arrAt 9 (cfgs 0).N
    = Cert.Reference4Ideal.Ffn.REF (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        := by
  refine (dats m 0 c).arrAt_eq_of_covers 9 _ (by decide +kernel) fun t hf y => ?_
  blk_simp
  rw [after0_9]
  idx_vars y
  obtain rfl : y0 = 0 := Subsingleton.elim _ _
  refine (out_at _ _ _ _ _ _ _ _ _ y1 y2).trans ?_
  have hb : t.val / 16 < 2 := (idx t).2.2.2.2.2.2.2.2.2.2
  have he : ((cfg0.win 9).blk t).view.emb (ix3 0 y1 y2)
      = ix3 (⟨t.val / 16, hb⟩ : Fin 2) (⟨t.val % 16 * 1024 + y1.val, by omega⟩ : Fin 16384) y2 := by blk_ext [idx t]
  refine Eq.trans ?_ (congrArg _ he.symm)
  refine Eq.trans ?_ (Cert.Reference4Ideal.Ffn.REF_at _ _ _ _ _ _ _ _ _ _ _).symm
  unfold blockOut
  refine row_congr (fun k => ?_) (fun k => ?_) (fun k => ?_) (fun k => ?_) (fun k => ?_) (fun k h => ?_) (fun k h => ?_)
    (fun h k => ?_) y2
  · exact xrow_eq m c t y1 k _ _ rfl rfl
  · exact (b3 m c t k).trans (v11 m c k)
  · exact b2 m c t 4 k ⟨t.val / 16, by omega⟩ rfl
  · exact b2 m c t 3 k ⟨t.val / 16, by omega⟩ rfl
  · exact b2 m c t 5 k ⟨t.val / 16, by omega⟩ rfl
  · exact (b5 m c t k h).trans (congrFun (v8 m c) _)
  · exact (b6 m c t k h).trans (congrFun (v9 m c) _)
  · exact (b7 m c t h k).trans (congrFun (v10 m c) _)
end

end Cert.Kernel4Ideal.Ffn

end
-- ==== Proof.FfnClaim4.lean ====
/- The value claim about the output projection and feed-forward call of layer 1, put together: the kernel's run leaves the
   array `FfnValue4` computes, the reference's run the term `FfnRef4` reads, and the two are one array. -/
module

public import proofs.«01_k».proof.Defs
public import proofs.«01_k».proof.Proof.FfnValue4
public import proofs.«01_k».proof.Proof.FfnRef4
public import proofs.«01_k».proof.Proof.Gen.Kernel4Ideal.Value
public import proofs.«01_k».proof.Proof.Gen.Reference4Ideal.Run
public import Idealize.ShloMosaic.Lib.Claim

@[expose] public section

set_option maxRecDepth 16384

noncomputable section

namespace Cert.FfnClaim4

open Idealize.ShloMosaic Idealize.ShloMosaic.TcCoe Idealize.SL.Sem

/-- From memories that agree on the arguments, the call and its reference both run and end with the same result. -/
theorem algebraic : Cert.algebraic_Kernel4Ideal_Reference4Ideal := by
  pair_intro
  · run_from Cert.Kernel4Ideal.Value.run_blocks m g
  · run_from Cert.Reference4Ideal.Value.run m' g'
    rw [Cert.Reference4Ideal.Ffn.res_eq m' c]
    obtain ⟨h0, h1, h2, h3, h4, h5, h6, h7, _⟩ := hagree c
    rw [h0, h1, h2, h3, h4, h5, h6, h7]
    exact (Cert.Kernel4Ideal.Ffn.final m c).symm

end Cert.FfnClaim4

end
-- ==== Proof.FfnRef5.lean ====
/- The reference of the projection and feed-forward call of layer 2, read row by row. -/
module

public import proofs.«01_k».proof.Proof.FfnRef
public import proofs.«01_k».proof.Proof.Gen.Reference5Ideal.Run

@[expose] public section

set_option maxRecDepth 16384

noncomputable section

open Idealize.ShloMosaic Idealize.ShloMosaic.TcCoe Idealize.SL.Sem

namespace Cert.Reference5Ideal.Ffn

open Cert.Reference5Ideal Cert.Reference5Ideal.Gen
open Cert.Kernel2Ideal.Ffn (rms glu zrow frow)
open Cert.Reference2Ideal.Ffn (cols colsTo colsInv)

variable (A0 : FVec Ideal S2x16384x1024 .f32) (A1 : FVec Ideal S2x16384x1024 .bf16) (A2 : FVec Ideal S4x8x6x1024 .f32)
  (A3 : FVec Ideal S4x1024 .f32) (A4 : FVec Ideal S4x1024x1024 .f32) (A5 A6 : FVec Ideal S4x1024x2816 .f32)
  (A7 : FVec Ideal S4x2816x1024 .f32)

/-- The stream after the mixer's projection. -/
def xmid : FVec Ideal S2x16384x1024 .f32 :=
  (addf A0 (mulf (broadcastInDim S2x16384x1024 ![0, 1, 2] bcast_S2x1x1024_S2x16384x1024_0_1_2 (broadcastInDim S2x1x1024 ![0, 2] bcast_S2x1024_S2x1x1024_0_2 (shapeCast _ (extractStridedSlice S1x2x1x1024 ![2, 0, 2, 0] A2 slices_S4x8x6x1024_S1x2x1x1024_2_0_2_0) shapeCasts_S1x2x1x1024_S2x1024))) (Host.dotGeneral dot_S2x16384x1024_S1024x1024_S2x16384x1024_2_0_01_1_n_n none ((concatenate S2x16384x1024 2 [⟨S2x16384x256, ((extractStridedSlice S2x16384x256 ![0, 0, 0] (extf .f32 A1 bitsLt_bf16_f32) slices_S2x16384x1024_S2x16384x256_0_0_0) : (⟨S2x16384x256, .f32⟩ : BufTy).Contents (Elt Ideal))⟩, ⟨S2x16384x512, ((shapeCast _ (transpose S2x16384x2x4x64 [0, 1, 3, 2, 4] (shapeCast _ (extractStridedSlice S2x16384x512 ![0, 0, 256] (extf .f32 A1 bitsLt_bf16_f32) slices_S2x16384x1024_S2x16384x512_0_0_256) shapeCasts_S2x16384x512_S2x16384x4x2x64) transposes_S2x16384x4x2x64_S2x16384x2x4x64_0_1_3_2_4) shapeCasts_S2x16384x2x4x64_S2x16384x512) : (⟨S2x16384x512, .f32⟩ : BufTy).Contents (Elt Ideal))⟩, ⟨S2x16384x256, ((extractStridedSlice S2x16384x256 ![0, 0, 768] (extf .f32 A1 bitsLt_bf16_f32) slices_S2x16384x1024_S2x16384x256_0_0_768) : (⟨S2x16384x256, .f32⟩ : BufTy).Contents (Elt Ideal))⟩] concatenates_S2x16384x256_S2x16384x512_S2x16384x256_S2x16384x1024_d2 : FVec Ideal S2x16384x1024 .f32)) (shapeCast _ (extractStridedSlice S1x1024x1024 ![2, 0, 0] A4 slices_S4x1024x1024_S1x1024x1024_2_0_0) shapeCasts_S1x1024x1024_S1024x1024))))

/-- Its modulated norm, from the stream. -/
def znorm (XM : FVec Ideal S2x16384x1024 .f32) : FVec Ideal S2x16384x1024 .f32 :=
  (addf (mulf (mulf (mulf XM (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf XM XM) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast _ (extractStridedSlice S1x1024 ![2, 0] A3 slices_S4x1024_S1x1024_2_0) shapeCasts_S1x1024_S1024)))) (broadcastInDim S2x16384x1024 ![0, 1, 2] bcast_S2x1x1024_S2x16384x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S1x2x1x1024 ![2, 0, 4, 0] A2 slices_S4x8x6x1024_S1x2x1x1024_2_0_4_0) shapeCasts_S1x2x1x1024_S2x1024))))) (broadcastInDim S2x16384x1024 ![0, 1, 2] bcast_S2x1x1024_S2x16384x1024_0_1_2 (broadcastInDim S2x1x1024 ![0, 2] bcast_S2x1024_S2x1x1024_0_2 (shapeCast _ (extractStridedSlice S1x2x1x1024 ![2, 0, 3, 0] A2 slices_S4x8x6x1024_S1x2x1x1024_2_0_3_0) shapeCasts_S1x2x1x1024_S2x1024))))

/-- The stream after the feed-forward layer, from the stream and the modulated norm. -/
def ffn (XM Z : FVec Ideal S2x16384x1024 .f32) : FVec Ideal S2x16384x1024 .f32 :=
  (addf XM (mulf (broadcastInDim S2x16384x1024 ![0, 1, 2] bcast_S2x1x1024_S2x16384x1024_0_1_2 (broadcastInDim S2x1x1024 ![0, 2] bcast_S2x1024_S2x1x1024_0_2 (shapeCast _ (extractStridedSlice S1x2x1x1024 ![2, 0, 5, 0] A2 slices_S4x8x6x1024_S1x2x1x1024_2_0_5_0) shapeCasts_S1x2x1x1024_S2x1024))) (Host.dotGeneral dot_S2x16384x2816_S2816x1024_S2x16384x1024_2_0_01_1_n_n none (mulf (mulf (Host.dotGeneral dot_S2x16384x1024_S1024x2816_S2x16384x2816_2_0_01_1_n_n none Z (shapeCast _ (extractStridedSlice S1x1024x2816 ![2, 0, 0] A5 slices_S4x1024x2816_S1x1024x2816_2_0_0) shapeCasts_S1x1024x2816_S1024x2816)) (Host.divf (broadcastInDim S2x16384x2816 ![] bcast_S_S2x16384x2816 (constant S_ .f32 0x3F800000#32)) (addf (broadcastInDim S2x16384x2816 ![] bcast_S_S2x16384x2816 (constant S_ .f32 0x3F800000#32)) (Host.exp (Host.negf (Host.dotGeneral dot_S2x16384x1024_S1024x2816_S2x16384x2816_2_0_01_1_n_n none Z (shapeCast _ (extractStridedSlice S1x1024x2816 ![2, 0, 0] A5 slices_S4x1024x2816_S1x1024x2816_2_0_0) shapeCasts_S1x1024x2816_S1024x2816))))))) (Host.dotGeneral dot_S2x16384x1024_S1024x2816_S2x16384x2816_2_0_01_1_n_n none Z (shapeCast _ (extractStridedSlice S1x1024x2816 ![2, 0, 0] A6 slices_S4x1024x2816_S1x1024x2816_2_0_0) shapeCasts_S1x1024x2816_S1024x2816))) (shapeCast _ (extractStridedSlice S1x2816x1024 ![2, 0, 0] A7 slices_S4x2816x1024_S1x2816x1024_2_0_0) shapeCasts_S1x2816x1024_S2816x1024))))

/-- The whole reference. -/
def REF : FVec Ideal S2x16384x1024 .f32 :=
  ffn A2 A5 A6 A7 (xmid A0 A1 A2 A4) (znorm A2 A3 (xmid A0 A1 A2 A4))

/-- The reference's run ends at this term. -/
theorem res_eq (m : (ℓ : Loc nD τ sig) → Buf (Elt Ideal) ℓ) (c : Dev nD) :
    Cert.Reference5Ideal.Value.res_main_v66 (F := Ideal) m c
      = REF (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rfl

theorem znorm_at (XM : FVec Ideal S2x16384x1024 .f32) (b : Fin 2) (s : Fin 16384) (j : Fin 1024) :
    znorm A2 A3 XM (ix3 b s j) = zrow (fun k => XM (ix3 b s k)) (fun k => A3 (ix2 2 k)) (fun k => A2 (ix4 2 ⟨b.val, by omega⟩ 4 k))
      (fun k => A2 (ix4 2 ⟨b.val, by omega⟩ 3 k)) j := by
  pointwise! [znorm, zrow, rms, zero_add]

theorem ffn_at (XM : FVec Ideal S2x16384x1024 .f32) (b : Fin 2) (s : Fin 16384) (j : Fin 1024) :
    ffn A2 A5 A6 A7 XM (znorm A2 A3 XM) (ix3 b s j)
      = frow (fun k => XM (ix3 b s k)) (fun k => A3 (ix2 2 k)) (fun k => A2 (ix4 2 ⟨b.val, by omega⟩ 4 k))
          (fun k => A2 (ix4 2 ⟨b.val, by omega⟩ 3 k)) (fun k => A2 (ix4 2 ⟨b.val, by omega⟩ 5 k))
          (fun k h => A5 (ix3 2 k h)) (fun k h => A6 (ix3 2 k h)) (fun h k => A7 (ix3 2 h k)) j := by
  pointwise! [ffn, frow, glu, znorm_at]

theorem xmid_at (b : Fin 2) (s : Fin 16384) (j : Fin 1024) :
    xmid A0 A1 A2 A4 (ix3 b s j) = A0 (ix3 b s j) + A2 (ix4 2 ⟨b.val, by omega⟩ 2 j) *
      (∑ k : Fin 256, A1 (ix3 b s ⟨k.val, by omega⟩) * A4 (ix3 2 ⟨k.val, by omega⟩ j)
        + (∑ k : Fin 512, A1 (ix3 b s ⟨256 + (cols k).val, by omega⟩) * A4 (ix3 2 ⟨256 + k.val, by omega⟩ j)
          + ∑ k : Fin 256, A1 (ix3 b s ⟨768 + k.val, by omega⟩) * A4 (ix3 2 ⟨768 + k.val, by omega⟩ j))) := by
  pointwise [xmid]
  refine congrArg₂ (· + ·) rfl (congrArg₂ (· * ·) rfl ?_)
  rw [Fin.sum_univ_two_halves 256 768 rfl, Fin.sum_univ_two_halves (N := 768) 512 256 rfl]
  refine congrArg₂ (· + ·) (Finset.sum_congr rfl fun k _ => ?_)
    (congrArg₂ (· + ·) (Finset.sum_congr rfl fun k _ => ?_) (Finset.sum_congr rfl fun k _ => ?_))
  · rw [dif_pos (show k.val < 256 from k.isLt)]
  · rw [dif_neg (by dsimp only; omega), dif_pos (by dsimp only; omega)]
    refine congrArg₂ (· * ·) (congrArg A1 ?_) rfl
    simp only [Nat.add_sub_cancel_left]
    rfl
  · rw [dif_neg (by dsimp only; omega), dif_neg (by dsimp only; omega)]
    refine congrArg₂ (· * ·) (congrArg A1 ?_) (congrArg A4 ?_)
    · refine (ix3_inj ..).2 ⟨rfl, rfl, ?_⟩
      simp only [Fin.mk.injEq]; omega
    · refine (ix3_inj ..).2 ⟨rfl, ?_, rfl⟩
      simp only [Fin.mk.injEq]; omega

/-- The whole reference, read row by row. -/
theorem REF_at (b : Fin 2) (s : Fin 16384) (j : Fin 1024) :
    REF A0 A1 A2 A3 A4 A5 A6 A7 (ix3 b s j)
      = frow (fun k => xmid A0 A1 A2 A4 (ix3 b s k)) (fun k => A3 (ix2 2 k)) (fun k => A2 (ix4 2 ⟨b.val, by omega⟩ 4 k))
          (fun k => A2 (ix4 2 ⟨b.val, by omega⟩ 3 k)) (fun k => A2 (ix4 2 ⟨b.val, by omega⟩ 5 k))
          (fun k h => A5 (ix3 2 k h)) (fun k h => A6 (ix3 2 k h)) (fun h k => A7 (ix3 2 h k)) j := by
  unfold REF
  rw [ffn_at]

end Cert.Reference5Ideal.Ffn

end
-- ==== Proof.FfnValue5.lean ====
/- The projection and feed-forward call of layer 2: its result array is its reference's term. -/
module

public import proofs.«01_k».proof.Proof.FfnRow
public import proofs.«01_k».proof.Proof.FfnRef5
public import proofs.«01_k».proof.Proof.Gen.Kernel5Ideal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Ffn

open Cert.Kernel5Ideal Cert.Kernel5Ideal.Gen
open Cert.Kernel2Ideal.Ffn (frow half znorm half_at)

section
variable (x0 : FVec Ideal S1x1024x1024 .f32) (x1 : FVec Ideal S1x1024x1024 .bf16) (x2 : FVec Ideal S1x1x6x1024 .f32)
    (x3 : FVec Ideal S1x1x1024 .f32) (x4 : FVec Ideal S1x1024x1024 .bf16) (x5 x6 : FVec Ideal S1x1024x2816 .bf16)
    (x7 : FVec Ideal S1x2816x1024 .bf16) (x8 : FVec Ideal S1x1024 .f32)

/-- A row of the block after the mixer's projection. -/
def xrow (r : Fin 1024) (j : Fin 1024) : EReal :=
  x0 (ix3 0 r j) + x2 (ix4 0 0 2 j) * ∑ k : Fin 1024, x1 (ix3 0 r k) * x4 (ix3 0 k j)

/-- What the body leaves at a row and column of the block. -/
def blockOut (r j : Fin 1024) : EReal :=
  frow (xrow x0 x1 x2 x4 r) (fun k => x3 (ix3 0 0 k)) (fun k => x2 (ix4 0 0 4 k)) (fun k => x2 (ix4 0 0 3 k))
    (fun k => x2 (ix4 0 0 5 k)) (fun k h => x5 (ix3 0 k h)) (fun k h => x6 (ix3 0 k h)) (fun h k => x7 (ix3 0 h k)) j

/-- The stream after the mixer's projection, first half of the block. -/
theorem xmid0 (i : Fin 512) (j : Fin 1024) :
    k0_pay44 (F := Ideal) x0 x1 x2 x3 x4 x5 x6 x7 x8 (ix2 i j) = xrow x0 x1 x2 x4 ⟨i.val, by omega⟩ j := by
  pointwise! [k0_pay44, k0_pay2, xrow, zero_add]

/-- The stream after the mixer's projection, second half of the block. -/
theorem xmid1 (i : Fin 512) (j : Fin 1024) :
    k0_pay45 (F := Ideal) x0 x1 x2 x3 x4 x5 x6 x7 x8 (ix2 i j) = xrow x0 x1 x2 x4 ⟨512 + i.val, by omega⟩ j := by
  pointwise! [k0_pay45, k0_pay3, xrow, zero_add]

end

section
variable (x0 : Vec Ideal S1x1024x1024 .f32) (x1 : Vec Ideal S1x1024x1024 .bf16) (x2 : Vec Ideal S1x1x6x1024 .f32)
    (x3 : Vec Ideal S1x1x1024 .f32) (x4 : Vec Ideal S1x1024x1024 .bf16) (x5 x6 : Vec Ideal S1x1024x2816 .bf16)
    (x7 : Vec Ideal S1x2816x1024 .bf16) (x8 : Vec Ideal S1x1024 .f32)

/-- A half block as it is stored. -/
def store (y : FVec Ideal S512x1024 .f32) : FVec Ideal S1x512x1024 .f32 :=
  shapeCast S1x512x1024 y shapeCasts_S512x1024_S1x512x1024

/-- A stored half block, read at an index. -/
theorem store_at (y : FVec Ideal S512x1024 .f32) (i : Fin 512) (j : Fin 1024) : store y (ix3 0 i j) = y (ix2 i j) := by
  pointwise [store]

/-- The first stored piece. -/
theorem piece0 :
    k0_pay27 (k0_pay44 x0 x1 x2 x3 x4 x5 x6 x7 x8) (k0_pay48 x0 x1 x2 x3 x4 x5 x6 x7 x8) (k0_pay25 (k0_pay48 x0 x1 x2 x3 x4 x5 x6 x7 x8) (k0_pay24 (k0_pay48 x0 x1 x2 x3 x4 x5 x6 x7 x8) (k0_pay21 (k0_pay48 x0 x1 x2 x3 x4 x5 x6 x7 x8) (k0_pay17 (k0_pay48 x0 x1 x2 x3 x4 x5 x6 x7 x8) (k0_pay11 (k0_pay48 x0 x1 x2 x3 x4 x5 x6 x7 x8) (k0_pay7 (F := Ideal)) (k0_pay8 (k0_pay44 x0 x1 x2 x3 x4 x5 x6 x7 x8) (k0_pay46 x0 x1 x2 x3 x4 x5 x6 x7 x8) (k0_pay47 x0 x1 x2 x3 x4 x5 x6 x7 x8) (View.ld x3 r0_4) (View.ld x2 r0_5) (View.ld x2 r0_6) (View.ld x5 r0_7)) (k0_pay9 (k0_pay44 x0 x1 x2 x3 x4 x5 x6 x7 x8) (k0_pay46 x0 x1 x2 x3 x4 x5 x6 x7 x8) (k0_pay47 x0 x1 x2 x3 x4 x5 x6 x7 x8) (View.ld x3 r0_4) (View.ld x2 r0_5) (View.ld x2 r0_6) (View.ld x6 r0_7)) (k0_pay10 (k0_pay44 x0 x1 x2 x3 x4 x5 x6 x7 x8) (k0_pay46 x0 x1 x2 x3 x4 x5 x6 x7 x8) (k0_pay47 x0 x1 x2 x3 x4 x5 x6 x7 x8) (View.ld x3 r0_4) (View.ld x2 r0_5) (View.ld x2 r0_6) (View.ld x5 r0_7)) (View.ld x7 r0_8) (View.ld x5 r0_9) (View.ld x6 r0_9) (View.ld x7 r0_10)) (k0_pay15 (k0_pay48 x0 x1 x2 x3 x4 x5 x6 x7 x8) (View.ld x5 r0_11) (View.ld x6 r0_11)) (k0_pay16 (View.ld x7 r0_12)) (View.ld x5 r0_13) (View.ld x6 r0_13) (View.ld x7 r0_14)) (k0_pay18 (k0_pay48 x0 x1 x2 x3 x4 x5 x6 x7 x8) (View.ld x5 r0_15)) (k0_pay19 (k0_pay48 x0 x1 x2 x3 x4 x5 x6 x7 x8) (View.ld x6 r0_15)) (k0_pay20 (k0_pay48 x0 x1 x2 x3 x4 x5 x6 x7 x8) (View.ld x5 r0_15)) (Scalar.ofBits (F := Ideal) .f32 0x3F800000#32) (View.ld x7 r0_16) (View.ld x5 r0_17) (View.ld x6 r0_17) (View.ld x7 r0_18)) (k0_pay22 (k0_pay48 x0 x1 x2 x3 x4 x5 x6 x7 x8) (View.ld x5 r0_19)) (k0_pay23 (View.ld x6 r0_19)) (View.ld x7 r0_20) (View.ld x5 r0_21) (View.ld x6 r0_21) (View.ld x7 r0_22)) (View.ld x5 r0_23) (View.ld x6 r0_23) (View.ld x7 r0_24)) (k0_pay26 (k0_pay48 x0 x1 x2 x3 x4 x5 x6 x7 x8) (View.ld x5 r0_25) (View.ld x6 r0_25)) (View.ld x7 r0_26) (View.ld x5 r0_27) (View.ld x6 r0_27) (View.ld x7 r0_28) (View.ld x2 r0_29)
      = store (half (k0_pay44 x0 x1 x2 x3 x4 x5 x6 x7 x8) (znorm (k0_pay44 x0 x1 x2 x3 x4 x5 x6 x7 x8) (View.ld x3 r0_4) (View.ld x2 r0_5) (View.ld x2 r0_6)) x5 x6 x7 (View.ld x2 r0_29)) := by
  rfl

/-- The second stored piece. -/
theorem piece1 :
    k0_pay1 (k0_pay45 x0 x1 x2 x3 x4 x5 x6 x7 x8) (k0_pay49 x0 x1 x2 x3 x4 x5 x6 x7 x8) (k0_pay42 (k0_pay49 x0 x1 x2 x3 x4 x5 x6 x7 x8) (k0_pay38 (k0_pay49 x0 x1 x2 x3 x4 x5 x6 x7 x8) (k0_pay36 (k0_pay49 x0 x1 x2 x3 x4 x5 x6 x7 x8) (k0_pay34 (k0_pay49 x0 x1 x2 x3 x4 x5 x6 x7 x8) (k0_pay30 (k0_pay49 x0 x1 x2 x3 x4 x5 x6 x7 x8) (k0_pay28 (k0_pay49 x0 x1 x2 x3 x4 x5 x6 x7 x8) (k0_pay14 (F := Ideal)) (View.ld x5 r0_7) (View.ld x6 r0_7) (View.ld x7 r0_8)) (k0_pay29 (k0_pay49 x0 x1 x2 x3 x4 x5 x6 x7 x8) (View.ld x5 r0_9) (View.ld x6 r0_9)) (View.ld x7 r0_10) (View.ld x5 r0_11) (View.ld x6 r0_11) (View.ld x7 r0_12)) (k0_pay31 (k0_pay49 x0 x1 x2 x3 x4 x5 x6 x7 x8) (View.ld x5 r0_13)) (k0_pay32 (k0_pay49 x0 x1 x2 x3 x4 x5 x6 x7 x8) (View.ld x6 r0_13)) (k0_pay33 (F := Ideal)) (View.ld x7 r0_14) (View.ld x5 r0_15) (View.ld x6 r0_15) (View.ld x7 r0_16)) (k0_pay35 (View.ld x5 r0_17)) (constant (F := Ideal) S512x256 .f32 0x00000000#32) (View.ld x6 r0_17) (View.ld x7 r0_18)) (k0_pay37 (k0_pay49 x0 x1 x2 x3 x4 x5 x6 x7 x8) (View.ld x5 r0_19) (View.ld x6 r0_19)) (View.ld x7 r0_20) (View.ld x5 r0_21) (View.ld x6 r0_21) (View.ld x7 r0_22)) (k0_pay39 (k0_pay49 x0 x1 x2 x3 x4 x5 x6 x7 x8) (View.ld x5 r0_23)) (k0_pay40 (k0_pay49 x0 x1 x2 x3 x4 x5 x6 x7 x8) (View.ld x6 r0_23)) (k0_pay41 (k0_pay49 x0 x1 x2 x3 x4 x5 x6 x7 x8) (View.ld x5 r0_23)) (View.ld x7 r0_24) (View.ld x5 r0_25) (View.ld x6 r0_25) (View.ld x7 r0_26)) (k0_pay43 (k0_pay49 x0 x1 x2 x3 x4 x5 x6 x7 x8) (View.ld x5 r0_27)) (View.ld x6 r0_27) (View.ld x7 r0_28) (View.ld x2 r0_29)
      = store (half (k0_pay45 x0 x1 x2 x3 x4 x5 x6 x7 x8) (znorm (k0_pay45 x0 x1 x2 x3 x4 x5 x6 x7 x8) (View.ld x3 r0_4) (View.ld x2 r0_5) (View.ld x2 r0_6)) x5 x6 x7 (View.ld x2 r0_29)) := by
  rfl

/-- Either stored piece, read at an index. -/
theorem piece_at (X : FVec Ideal S512x1024 .f32) (r : Fin 1024) (i : Fin 512) (j : Fin 1024)
    (hX : ∀ k, X (ix2 i k) = xrow x0 x1 x2 x4 r k) :
    store (half X (znorm X (View.ld x3 r0_4) (View.ld x2 r0_5) (View.ld x2 r0_6)) x5 x6 x7 (View.ld x2 r0_29)) (ix3 0 i j)
      = blockOut x0 x1 x2 x3 x4 x5 x6 x7 r j := by
  rw [store_at, half_at]
  simp only [hX]
  pointwise
  rfl

/-- What the body leaves at a row and column of the block. -/
theorem out_at (r j : Fin 1024) :
    out0_9 (F := Ideal) x0 x1 x2 x3 x4 x5 x6 x7 x8 (ix3 0 r j) = blockOut x0 x1 x2 x3 x4 x5 x6 x7 r j := by
  unfold out0_9
  rw [piece0, piece1]
  canon_tiles q h
  all_goals idx_vars q
  all_goals obtain rfl : q0 = 0 := Subsingleton.elim _ _
  · obtain rfl : q2 = j := Fin.ext h2.symm
    refine piece_at x0 x1 x2 x3 x4 x5 x6 x7 _ r q1 q2 fun k => (xmid1 x0 x1 x2 x3 x4 x5 x6 x7 x8 q1 k).trans ?_
    exact congrArg (xrow x0 x1 x2 x4 · k) (Fin.ext h1.symm)
  · obtain rfl : q2 = j := Fin.ext h2.symm
    refine piece_at x0 x1 x2 x3 x4 x5 x6 x7 _ r q1 q2 fun k => (xmid0 x0 x1 x2 x3 x4 x5 x6 x7 x8 q1 k).trans ?_
    exact congrArg (xrow x0 x1 x2 x4 · k) (Fin.ext h1.symm)
end

variable (m : (ℓ : Loc nD τ sig) → Buf (Elt Ideal) ℓ)

theorem idx : ∀ t : Fin cfg0.N, win0_0.index t = ![t.val / 16, t.val % 16, 0] ∧ win0_1.index t = ![t.val / 16, t.val % 16, 0]
    ∧ win0_2.index t = ![2, t.val / 16, 0, 0] ∧ win0_3.index t = ![2, 0, 0] ∧ win0_4.index t = ![2, 0, 0] ∧ win0_5.index t = ![2, 0, 0]
    ∧ win0_6.index t = ![2, 0, 0] ∧ win0_7.index t = ![2, 0, 0] ∧ win0_8.index t = ![0, 0] ∧ win0_9.index t = ![t.val / 16, t.val % 16, 0]
    ∧ t.val / 16 < 2 :=
  (by decide +kernel : ∀ t : Fin grid0.N, _)

/-- Rows with equal ingredients are equal. -/
theorem row_congr {X X' N2 N2' SC SC' SH SH' G2 G2' : Fin 1024 → EReal} {WG WG' WU WU' : Fin 1024 → Fin 2816 → EReal}
    {WD WD' : Fin 2816 → Fin 1024 → EReal} (hX : ∀ k, X k = X' k) (hN : ∀ k, N2 k = N2' k) (hC : ∀ k, SC k = SC' k) (hH : ∀ k, SH k = SH' k)
    (hG : ∀ k, G2 k = G2' k) (hWG : ∀ k h, WG k h = WG' k h) (hWU : ∀ k h, WU k h = WU' k h)
    (hWD : ∀ h k, WD h k = WD' h k) (j : Fin 1024) :
    frow X N2 SC SH G2 WG WU WD j = frow X' N2' SC' SH' G2' WG' WU' WD' j := by
  obtain rfl := funext hX; obtain rfl := funext hN; obtain rfl := funext hC; obtain rfl := funext hH; obtain rfl := funext hG
  obtain rfl := funext fun k => funext (hWG k); obtain rfl := funext fun k => funext (hWU k)
  obtain rfl := funext fun k => funext (hWD k)
  rfl

section
variable (c : Dev nD) (t : Fin cfg0.N)
theorem b0 (r k : Fin 1024) (b : Fin 2) (s : Fin 16384) (hb : b.val = t.val / 16) (hs : s.val = t.val % 16 * 1024 + r.val) :
    iblk m c 0 t (ix3 0 r k) = m ((c : Thread nD τ).loc main_arg0) (ix3 b s k) := by
  blk_ext [iblk, V, idx t]
theorem b1 (r k : Fin 1024) (b : Fin 2) (s : Fin 16384) (hb : b.val = t.val / 16) (hs : s.val = t.val % 16 * 1024 + r.val) :
    iblk m c 1 t (ix3 0 r k) = m ((c : Thread nD τ).loc main_arg1) (ix3 b s k) := by
  blk_ext [iblk, V, idx t]
theorem b2 (r : Fin 6) (k : Fin 1024) (b : Fin 8) (hb : b.val = t.val / 16) :
    iblk m c 2 t (ix4 0 0 r k) = m ((c : Thread nD τ).loc main_arg2) (ix4 2 b r k) := by
  blk_ext [iblk, V, idx t]
theorem b4 (k j : Fin 1024) : iblk m c 4 t (ix3 0 k j) = V m c main_v7 (ix3 2 k j) := by
  blk_ext [iblk, idx t]
theorem b3 (k : Fin 1024) : iblk m c 3 t (ix3 0 0 k) = V m c main_v11 (ix3 2 0 k) := by
  blk_ext [iblk, idx t]
theorem b5 (k : Fin 1024) (h : Fin 2816) : iblk m c 5 t (ix3 0 k h) = V m c main_v8 (ix3 2 k h) := by
  blk_ext [iblk, idx t]
theorem b6 (k : Fin 1024) (h : Fin 2816) : iblk m c 6 t (ix3 0 k h) = V m c main_v9 (ix3 2 k h) := by
  blk_ext [iblk, idx t]
theorem b7 (k : Fin 2816) (h : Fin 1024) : iblk m c 7 t (ix3 0 k h) = V m c main_v10 (ix3 2 k h) := by
  blk_ext [iblk, idx t]
end

section
variable (c : Dev nD)
theorem v8 : (V m c main_v8 : FVec Ideal S4x1024x2816 .bf16) = (m ((c : Thread nD τ).loc main_arg5) : FVec Ideal S4x1024x2816 .f32) := by
  entry_read; rfl
theorem v9 : (V m c main_v9 : FVec Ideal S4x1024x2816 .bf16) = (m ((c : Thread nD τ).loc main_arg6) : FVec Ideal S4x1024x2816 .f32) := by
  entry_read; rfl
theorem v10 : (V m c main_v10 : FVec Ideal S4x2816x1024 .bf16) = (m ((c : Thread nD τ).loc main_arg7) : FVec Ideal S4x2816x1024 .f32) := by
  entry_read; rfl
theorem v11 (k : Fin 1024) : (V m c main_v11 : FVec Ideal S4x1x1024 .f32) (ix3 2 0 k) = (m ((c : Thread nD τ).loc main_arg3) : FVec Ideal S4x1024 .f32) (ix2 2 k) := by
  entry_read; pointwise
/-- The projection's rows put together again from their three groups. -/
def joinRows : (main_v5 : Ref sig .tc).ty.Contents (Elt Ideal) → (main_v4 : Ref sig .tc).ty.Contents (Elt Ideal) → (main_v6 : Ref sig .tc).ty.Contents (Elt Ideal) → (main_v7 : Ref sig .tc).ty.Contents (Elt Ideal) :=
  (fun u0 u1 u2 => (concatenate S4x1024x1024 1 [⟨S4x256x1024, (u0 : (⟨S4x256x1024, .bf16⟩ : BufTy).Contents (Elt Ideal))⟩, ⟨S4x512x1024, (u1 : (⟨S4x512x1024, .bf16⟩ : BufTy).Contents (Elt Ideal))⟩, ⟨S4x256x1024, (u2 : (⟨S4x256x1024, .bf16⟩ : BufTy).Contents (Elt Ideal))⟩] concatenates_S4x256x1024_S4x512x1024_S4x256x1024_S4x1024x1024_d1 : (⟨S4x1024x1024, .bf16⟩ : BufTy).Contents (Elt Ideal)))

/-- The host operations before the launch, the one that joins the row groups by name. -/
abbrev hostLine : List (HloOp τ sig (Elt Ideal)) :=
  [ StableHlo.unary main_arg4 main_v0 ((truncf (F := Ideal) .bf16 · bitsLt_bf16_f32) : (⟨S4x1024x1024, .f32⟩ : BufTy).Contents (Elt Ideal) → (⟨S4x1024x1024, .bf16⟩ : BufTy).Contents (Elt Ideal)),
    StableHlo.unary main_v0 main_v1 ((extractStridedSlice S4x512x1024 ![0, 256, 0] · slices_S4x1024x1024_S4x512x1024_0_256_0) : (⟨S4x1024x1024, .bf16⟩ : BufTy).Contents (Elt Ideal) → (⟨S4x512x1024, .bf16⟩ : BufTy).Contents (Elt Ideal)),
    StableHlo.reshape main_v1 main_v2 (rfl : (.bf16 : EltTy) = .bf16) shapeCasts_S4x512x1024_S4x2x4x64x1024,
    StableHlo.unary main_v2 main_v3 ((transpose S4x4x2x64x1024 [0, 2, 1, 3, 4] · transposes_S4x2x4x64x1024_S4x4x2x64x1024_0_2_1_3_4) : (⟨S4x2x4x64x1024, .bf16⟩ : BufTy).Contents (Elt Ideal) → (⟨S4x4x2x64x1024, .bf16⟩ : BufTy).Contents (Elt Ideal)),
    StableHlo.reshape main_v3 main_v4 (rfl : (.bf16 : EltTy) = .bf16) shapeCasts_S4x4x2x64x1024_S4x512x1024,
    StableHlo.unary main_v0 main_v5 ((extractStridedSlice S4x256x1024 ![0, 0, 0] · slices_S4x1024x1024_S4x256x1024_0_0_0) : (⟨S4x1024x1024, .bf16⟩ : BufTy).Contents (Elt Ideal) → (⟨S4x256x1024, .bf16⟩ : BufTy).Contents (Elt Ideal)),
    StableHlo.unary main_v0 main_v6 ((extractStridedSlice S4x256x1024 ![0, 768, 0] · slices_S4x1024x1024_S4x256x1024_0_768_0) : (⟨S4x1024x1024, .bf16⟩ : BufTy).Contents (Elt Ideal) → (⟨S4x256x1024, .bf16⟩ : BufTy).Contents (Elt Ideal)),
    StableHlo.nary ![main_v5, main_v4, main_v6] main_v7 (fun u => joinRows (u 0) (u 1) (u 2)),
    StableHlo.unary main_arg5 main_v8 ((truncf (F := Ideal) .bf16 · bitsLt_bf16_f32) : (⟨S4x1024x2816, .f32⟩ : BufTy).Contents (Elt Ideal) → (⟨S4x1024x2816, .bf16⟩ : BufTy).Contents (Elt Ideal)),
    StableHlo.unary main_arg6 main_v9 ((truncf (F := Ideal) .bf16 · bitsLt_bf16_f32) : (⟨S4x1024x2816, .f32⟩ : BufTy).Contents (Elt Ideal) → (⟨S4x1024x2816, .bf16⟩ : BufTy).Contents (Elt Ideal)),
    StableHlo.unary main_arg7 main_v10 ((truncf (F := Ideal) .bf16 · bitsLt_bf16_f32) : (⟨S4x2816x1024, .f32⟩ : BufTy).Contents (Elt Ideal) → (⟨S4x2816x1024, .bf16⟩ : BufTy).Contents (Elt Ideal)),
    StableHlo.reshape main_arg3 main_v11 (rfl : (.f32 : EltTy) = .f32) shapeCasts_S4x1024_S4x1x1024,
    StableHlo.reshape main_arg8 main_v12 (rfl : (.f32 : EltTy) = .f32) shapeCasts_S1024_S1x1024 ]

/-- The projection the kernel is given, as a term over the argument. -/
theorem v7_eq : V m c main_v7 = joinRows
      (extractStridedSlice S4x256x1024 ![0, 0, 0] (truncf .bf16 (m ((c : Thread nD τ).loc main_arg4) : FVec Ideal S4x1024x1024 .f32) bitsLt_bf16_f32 : FVec Ideal S4x1024x1024 .bf16) slices_S4x1024x1024_S4x256x1024_0_0_0)
      (shapeCast S4x512x1024 (transpose S4x4x2x64x1024 [0, 2, 1, 3, 4] (shapeCast S4x2x4x64x1024 (extractStridedSlice S4x512x1024 ![0, 256, 0] (truncf .bf16 (m ((c : Thread nD τ).loc main_arg4) : FVec Ideal S4x1024x1024 .f32) bitsLt_bf16_f32 : FVec Ideal S4x1024x1024 .bf16) slices_S4x1024x1024_S4x512x1024_0_256_0) shapeCasts_S4x512x1024_S4x2x4x64x1024) transposes_S4x2x4x64x1024_S4x4x2x64x1024_0_2_1_3_4) shapeCasts_S4x4x2x64x1024_S4x512x1024)
      (extractStridedSlice S4x256x1024 ![0, 768, 0] (truncf .bf16 (m ((c : Thread nD τ).loc main_arg4) : FVec Ideal S4x1024x1024 .f32) bitsLt_bf16_f32 : FVec Ideal S4x1024x1024 .bf16) slices_S4x1024x1024_S4x256x1024_0_768_0) := by
  show StableHlo.after hostLine (fun b => m (c, b)) (Proc.devRef .tc main_v7) = _
  after_results_simp
  try dsimp only [Matrix.cons_val]
  rfl

theorem v7a (k : Fin 256) (j : Fin 1024) : (V m c main_v7 : FVec Ideal S4x1024x1024 .bf16) (ix3 2 ⟨k.val, by omega⟩ j) = (m ((c : Thread nD τ).loc main_arg4) : FVec Ideal S4x1024x1024 .f32) (ix3 2 ⟨k.val, by omega⟩ j) := by
  rw [v7_eq]
  pointwise [joinRows]
theorem v7c (k : Fin 256) (j : Fin 1024) : (V m c main_v7 : FVec Ideal S4x1024x1024 .bf16) (ix3 2 ⟨768 + k.val, by omega⟩ j) = (m ((c : Thread nD τ).loc main_arg4) : FVec Ideal S4x1024x1024 .f32) (ix3 2 ⟨768 + k.val, by omega⟩ j) := by
  rw [v7_eq]
  pointwise [joinRows]
  rw [dif_neg (by omega), dif_neg (by omega)]
  exact congrArg _ ((ix3_inj ..).2 ⟨rfl, by simp only [Fin.mk.injEq]; omega, rfl⟩)
theorem v7b (k : Fin 512) (j : Fin 1024) : (V m c main_v7 : FVec Ideal S4x1024x1024 .bf16) (ix3 2 ⟨256 + k.val, by omega⟩ j)
    = (m ((c : Thread nD τ).loc main_arg4) : FVec Ideal S4x1024x1024 .f32) (ix3 2 ⟨256 + (Cert.Reference2Ideal.Ffn.colsInv k).val, by omega⟩ j) := by
  rw [v7_eq]
  pointwise [joinRows]
  rfl
theorem xrow_eq (t : Fin cfg0.N) (r j : Fin 1024) (b : Fin 2) (s : Fin 16384) (hb : b.val = t.val / 16) (hs : s.val = t.val % 16 * 1024 + r.val) :
    xrow (iblk m c 0 t) (iblk m c 1 t) (iblk m c 2 t) (iblk m c 4 t) r j
      = Cert.Reference5Ideal.Ffn.xmid (m ((c : Thread nD τ).loc main_arg0)) (m ((c : Thread nD τ).loc main_arg1))
          (m ((c : Thread nD τ).loc main_arg2)) (m ((c : Thread nD τ).loc main_arg4)) (ix3 b s j) := by
  rw [Cert.Reference5Ideal.Ffn.xmid_at]
  unfold xrow
  rw [Fin.sum_univ_two_halves 256 768 rfl, Fin.sum_univ_two_halves (N := 768) 512 256 rfl]
  refine congrArg₂ (· + ·) (b0 m c t r j b s hb hs) (congrArg₂ (· * ·) (b2 m c t 2 j ⟨b.val, by omega⟩ hb) ?_)
  refine congrArg₂ (· + ·) (Finset.sum_congr rfl fun k _ => ?_)
    (congrArg₂ (· + ·) ?_ (Finset.sum_congr rfl fun k _ => ?_))
  · exact congrArg₂ (· * ·) (b1 m c t r _ b s hb hs) ((b4 m c t _ j).trans (v7a m c k j))
  · refine Fintype.sum_equiv Cert.Reference2Ideal.Ffn.cols.symm _ _ fun k => ?_
    refine congrArg₂ (· * ·) ((b1 m c t r _ b s hb hs).trans ?_) ((b4 m c t _ j).trans ?_)
    · refine congrArg _ ((ix3_inj ..).2 ⟨rfl, rfl, ?_⟩)
      simp only [Fin.mk.injEq, Equiv.apply_symm_apply]
    · exact v7b m c k j
  · refine congrArg₂ (· * ·) ((b1 m c t r _ b s hb hs).trans ?_) ((b4 m c t _ j).trans ?_)
    · exact congrArg _ ((ix3_inj ..).2 ⟨rfl, rfl, by simp only [Fin.mk.injEq]; omega⟩)
    · refine Eq.trans (congrArg _ ((ix3_inj ..).2 ⟨rfl, ?_, rfl⟩)) (v7c m c k j)
      simp only [Fin.mk.injEq]; omega

theorem final : (dats m 0 c).arrAt 9 (cfgs 0).N
    = Cert.Reference5Ideal.Ffn.REF (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        := by
  refine (dats m 0 c).arrAt_eq_of_covers 9 _ (by decide +kernel) fun t hf y => ?_
  blk_simp
  rw [after0_9]
  idx_vars y
  obtain rfl : y0 = 0 := Subsingleton.elim _ _
  refine (out_at _ _ _ _ _ _ _ _ _ y1 y2).trans ?_
  have hb : t.val / 16 < 2 := (idx t).2.2.2.2.2.2.2.2.2.2
  have he : ((cfg0.win 9).blk t).view.emb (ix3 0 y1 y2)
      = ix3 (⟨t.val / 16, hb⟩ : Fin 2) (⟨t.val % 16 * 1024 + y1.val, by omega⟩ : Fin 16384) y2 := by blk_ext [idx t]
  refine Eq.trans ?_ (congrArg _ he.symm)
  refine Eq.trans ?_ (Cert.Reference5Ideal.Ffn.REF_at _ _ _ _ _ _ _ _ _ _ _).symm
  unfold blockOut
  refine row_congr (fun k => ?_) (fun k => ?_) (fun k => ?_) (fun k => ?_) (fun k => ?_) (fun k h => ?_) (fun k h => ?_)
    (fun h k => ?_) y2
  · exact xrow_eq m c t y1 k _ _ rfl rfl
  · exact (b3 m c t k).trans (v11 m c k)
  · exact b2 m c t 4 k ⟨t.val / 16, by omega⟩ rfl
  · exact b2 m c t 3 k ⟨t.val / 16, by omega⟩ rfl
  · exact b2 m c t 5 k ⟨t.val / 16, by omega⟩ rfl
  · exact (b5 m c t k h).trans (congrFun (v8 m c) _)
  · exact (b6 m c t k h).trans (congrFun (v9 m c) _)
  · exact (b7 m c t h k).trans (congrFun (v10 m c) _)
end

end Cert.Kernel5Ideal.Ffn

end
-- ==== Proof.FfnClaim5.lean ====
/- The value claim about the output projection and feed-forward call of layer 2, put together: the kernel's run leaves the
   array `FfnValue5` computes, the reference's run the term `FfnRef5` reads, and the two are one array. -/
module

public import proofs.«01_k».proof.Defs
public import proofs.«01_k».proof.Proof.FfnValue5
public import proofs.«01_k».proof.Proof.FfnRef5
public import proofs.«01_k».proof.Proof.Gen.Kernel5Ideal.Value
public import proofs.«01_k».proof.Proof.Gen.Reference5Ideal.Run
public import Idealize.ShloMosaic.Lib.Claim

@[expose] public section

set_option maxRecDepth 16384

noncomputable section

namespace Cert.FfnClaim5

open Idealize.ShloMosaic Idealize.ShloMosaic.TcCoe Idealize.SL.Sem

/-- From memories that agree on the arguments, the call and its reference both run and end with the same result. -/
theorem algebraic : Cert.algebraic_Kernel5Ideal_Reference5Ideal := by
  pair_intro
  · run_from Cert.Kernel5Ideal.Value.run_blocks m g
  · run_from Cert.Reference5Ideal.Value.run m' g'
    rw [Cert.Reference5Ideal.Ffn.res_eq m' c]
    obtain ⟨h0, h1, h2, h3, h4, h5, h6, h7, _⟩ := hagree c
    rw [h0, h1, h2, h3, h4, h5, h6, h7]
    exact (Cert.Kernel5Ideal.Ffn.final m c).symm

end Cert.FfnClaim5

end
-- ==== Proof.lean ====
/- The certificate: the witnesses of the programs' stated facts, the frames, what the idealization preserves, and the
   value claims, each proved in its own module and put together here. -/
module

public import proofs.«01_k».proof.Defs
public import proofs.«01_k».proof.Proof.FfnClaim
public import proofs.«01_k».proof.Proof.FfnClaim3
public import proofs.«01_k».proof.Proof.FfnClaim4
public import proofs.«01_k».proof.Proof.FfnClaim5
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference of the mixer call runs, leaves its arguments and every counter at zero. -/
theorem frame_ri : Cert.quiescent_ReferenceIdeal := by
  intro m g _
  refine (θ_run _ _ _).mono (fun r h => ⟨fun c => (h c).2.2, sem_eq_zero_of_no_sems (by decide) _⟩)
    (Cert.ReferenceIdeal.Value.run (F := Ideal) m g)

/-- The reference of the output projection and feed-forward call of layer 3 runs, leaves its arguments and every counter at zero. -/
theorem frame_ri2 : Cert.quiescent_Reference2Ideal := by
  intro m g _
  refine (θ_run _ _ _).mono (fun r h => ⟨fun c => (h c).2, sem_eq_zero_of_no_sems (by decide) _⟩)
    (Cert.Reference2Ideal.Value.run (F := Ideal) m g)

/-- The reference of the output projection and feed-forward call of layer 0 runs, leaves its arguments and every counter at zero. -/
theorem frame_ri3 : Cert.quiescent_Reference3Ideal := by
  intro m g _
  refine (θ_run _ _ _).mono (fun r h => ⟨fun c => (h c).2, sem_eq_zero_of_no_sems (by decide) _⟩)
    (Cert.Reference3Ideal.Value.run (F := Ideal) m g)

/-- The reference of the output projection and feed-forward call of layer 1 runs, leaves its arguments and every counter at zero. -/
theorem frame_ri4 : Cert.quiescent_Reference4Ideal := by
  intro m g _
  refine (θ_run _ _ _).mono (fun r h => ⟨fun c => (h c).2, sem_eq_zero_of_no_sems (by decide) _⟩)
    (Cert.Reference4Ideal.Value.run (F := Ideal) m g)

/-- The reference of the output projection and feed-forward call of layer 2 runs, leaves its arguments and every counter at zero. -/
theorem frame_ri5 : Cert.quiescent_Reference5Ideal := by
  intro m g _
  refine (θ_run _ _ _).mono (fun r h => ⟨fun c => (h c).2, sem_eq_zero_of_no_sems (by decide) _⟩)
    (Cert.Reference5Ideal.Value.run (F := Ideal) m g)

/-- The two constants the idealization names have the bits of what they stand for. -/
theorem preserves : Cert.preserves_Kernel_KernelIdeal :=
  ⟨IdealRules.named_const.statement Cert.KernelIdeal.κ "log2e" .f32 0x3FB8AA3B#32 _ rfl,
    IdealRules.named_const.statement Cert.KernelIdeal.κ "neg_mask" .f32 0xF149F2CA#32 _ rfl⟩

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    fun m g _ => Cert.Kernel.Gen.frame m g, fun m g _ => Cert.KernelIdeal.Gen.frame m g, frame_ri,
    fun m g _ => Cert.Kernel2.Gen.frame m g, fun m g _ => Cert.Kernel2Ideal.Gen.frame m g, frame_ri2,
    fun m g _ => Cert.Kernel3.Gen.frame m g, fun m g _ => Cert.Kernel3Ideal.Gen.frame m g, frame_ri3,
    fun m g _ => Cert.Kernel4.Gen.frame m g, fun m g _ => Cert.Kernel4Ideal.Gen.frame m g, frame_ri4,
    fun m g _ => Cert.Kernel5.Gen.frame m g, fun m g _ => Cert.Kernel5Ideal.Gen.frame m g, frame_ri5,
    preserves,
    trivial, Cert.FfnClaim.algebraic,
    trivial, Cert.FfnClaim3.algebraic,
    trivial, Cert.FfnClaim4.algebraic,
    trivial, Cert.FfnClaim5.algebraic⟩

end Cert.Proof

end
